-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000 : Shape := ⟨1, ![1000000]⟩
abbrev S4194304 : Shape := ⟨1, ![4194304]⟩
abbrev S1 : Shape := ⟨1, ![1]⟩
abbrev S_ : Shape := ⟨0, ![]⟩
abbrev S48576 : Shape := ⟨1, ![48576]⟩
abbrev S1048576 : Shape := ⟨1, ![1048576]⟩
abbrev S8192x128 : Shape := ⟨2, ![8192, 128]⟩
abbrev S32768x128 : Shape := ⟨2, ![32768, 128]⟩
abbrev S16777216 : Shape := ⟨1, ![16777216]⟩
abbrev S8x128 : Shape := ⟨2, ![8, 128]⟩
abbrev S128 : Shape := ⟨1, ![128]⟩
abbrev S16 : Shape := ⟨1, ![16]⟩
abbrev S1x16 : Shape := ⟨2, ![1, 16]⟩
abbrev S1x128 : Shape := ⟨2, ![1, 128]⟩
abbrev S16384x1024 : Shape := ⟨2, ![16384, 1024]⟩
abbrev S32x1024 : Shape := ⟨2, ![32, 1024]⟩
abbrev S1x1024 : Shape := ⟨2, ![1, 1024]⟩
abbrev S31x1024 : Shape := ⟨2, ![31, 1024]⟩
abbrev S32x1x1024 : Shape := ⟨3, ![32, 1, 1024]⟩
abbrev S512x1024 : Shape := ⟨2, ![512, 1024]⟩
abbrev S1x1x1024 : Shape := ⟨3, ![1, 1, 1024]⟩
abbrev S514x1024 : Shape := ⟨2, ![514, 1024]⟩
abbrev S1x8 : Shape := ⟨2, ![1, 8]⟩
abbrev S513x8 : Shape := ⟨2, ![513, 8]⟩
abbrev S514x8 : Shape := ⟨2, ![514, 8]⟩
abbrev S514x1032 : Shape := ⟨2, ![514, 1032]⟩

abbrev nBuf : Table → Nat
  | .hbm => 29
  | .local .tc .vmem => 8
  | .local .scVector .vmem => 6
  | _ => 0

abbrev bufTy : (tb : Table) → Fin (nBuf tb) → BufTy
  | .hbm, ⟨0, _⟩ => ⟨S1000000, .i32⟩
  | .hbm, ⟨1, _⟩ => ⟨S4194304, .i32⟩
  | .hbm, ⟨2, _⟩ => ⟨S1, .i32⟩
  | .hbm, ⟨3, _⟩ => ⟨S_, .i32⟩
  | .hbm, ⟨4, _⟩ => ⟨S48576, .i32⟩
  | .hbm, ⟨5, _⟩ => ⟨S1048576, .i32⟩
  | .hbm, ⟨6, _⟩ => ⟨S8192x128, .i32⟩
  | .hbm, ⟨7, _⟩ => ⟨S32768x128, .i32⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16384x1024, .i32⟩
  | .hbm, ⟨12, _⟩ => ⟨S32x1024, .i32⟩
  | .hbm, ⟨13, _⟩ => ⟨S1x1024, .i32⟩
  | .hbm, ⟨14, _⟩ => ⟨S31x1024, .i32⟩
  | .hbm, ⟨15, _⟩ => ⟨S32x1024, .i32⟩
  | .hbm, ⟨16, _⟩ => ⟨S32x1x1024, .i32⟩
  | .hbm, ⟨17, _⟩ => ⟨S32x1024, .i32⟩
  | .hbm, ⟨18, _⟩ => ⟨S31x1024, .i32⟩
  | .hbm, ⟨19, _⟩ => ⟨S1x1024, .i32⟩
  | .hbm, ⟨20, _⟩ => ⟨S32x1024, .i32⟩
  | .hbm, ⟨21, _⟩ => ⟨S32x1x1024, .i32⟩
  | .hbm, ⟨22, _⟩ => ⟨S16384x1024, .i32⟩
  | .hbm, ⟨23, _⟩ => ⟨S16777216, .i32⟩
  | .hbm, ⟨24, _⟩ => ⟨S32768x128, .i32⟩
  | .hbm, ⟨25, _⟩ => ⟨S4194304, .i32⟩
  | .hbm, ⟨26, _⟩ => ⟨S_, .i32⟩
  | .hbm, ⟨27, _⟩ => ⟨S4194304, .i32⟩
  | .hbm, ⟨28, _⟩ => ⟨S4194304, .i1⟩
  | .local .tc .vmem, ⟨0, _⟩ => ⟨S512x1024, .i32⟩
  | .local .tc .vmem, ⟨1, _⟩ => ⟨S512x1024, .i32⟩
  | .local .tc .vmem, ⟨2, _⟩ => ⟨S1x1x1024, .i32⟩
  | .local .tc .vmem, ⟨3, _⟩ => ⟨S1x1x1024, .i32⟩
  | .local .tc .vmem, ⟨4, _⟩ => ⟨S1x1x1024, .i32⟩
  | .local .tc .vmem, ⟨5, _⟩ => ⟨S1x1x1024, .i32⟩
  | .local .tc .vmem, ⟨6, _⟩ => ⟨S512x1024, .i32⟩
  | .local .tc .vmem, ⟨7, _⟩ => ⟨S512x1024, .i32⟩
  | .local .scVector .vmem, ⟨0, _⟩ => ⟨S8x128, .i32⟩
  | .local .scVector .vmem, ⟨1, _⟩ => ⟨S8x128, .i32⟩
  | .local .scVector .vmem, ⟨2, _⟩ => ⟨S128, .i32⟩
  | .local .scVector .vmem, ⟨3, _⟩ => ⟨S8x128, .i32⟩
  | .local .scVector .vmem, ⟨4, _⟩ => ⟨S8x128, .i32⟩
  | .local .scVector .vmem, ⟨5, _⟩ => ⟨S8x128, .i32⟩
  | _, _ => ⟨S1000000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call1_v0 : Ref sig .tc := ⟨.hbm, 18, rfl⟩
abbrev main_call1_v1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v4_scv : Ref sig .scVector := ⟨.hbm, 6, rfl⟩
abbrev main_v7_scv : Ref sig .scVector := ⟨.hbm, 10, rfl⟩
abbrev main_v5_scv : Ref sig .scVector := ⟨.hbm, 7, rfl⟩
abbrev main_v16_scv : Ref sig .scVector := ⟨.hbm, 23, rfl⟩
abbrev main_v17_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c32_i32 : BitVec 32 := 32#32
  let v35 : BitVec 32 := Scalar.addi c0_i32 c32_i32
  let c1_i32_7 : BitVec 32 := 1#32
  ⟨c0_i32, v35, c1_i32_7⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32 : BitVec 32 := 0#32
  let c1_i32_7 : BitVec 32 := 1#32
  let arg9 : BitVec 32 := Scf.iv c0_i32 c1_i32_7 k0_t1
  let c1_i32_9 : BitVec 32 := 1#32
  let v36 : BitVec 32 := Scalar.muli arg9 c1_i32_9
  let v37 : BitVec 32 := Scalar.addi c0_i32_10 v36
  let c8_i32 : BitVec 32 := 8#32
  let v38 : BitVec 32 := Scalar.muli v37 c8_i32
  let v39 : BitVec 32 := Scalar.addi v2 v38
  let c0_i32_436_r0 : BitVec 32 := 0#32
  ![v39.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

@[reducible] def k2_t1_loop : Scf.Loop 32 :=
  let c0_i32 : BitVec 32 := 0#32
  let c128_i32 : BitVec 32 := 128#32
  let v3 : BitVec 32 := Scalar.addi c0_i32 c128_i32
  let c1_i32 : BitVec 32 := 1#32
  ⟨c0_i32, v3, c1_i32⟩
def k2_off1 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  let c0_i32 : BitVec 32 := 0#32
  let c1_i32 : BitVec 32 := 1#32
  let arg9 : BitVec 32 := Scf.iv c0_i32 c1_i32 k2_t1
  let c1_i32_1 : BitVec 32 := 1#32
  let v4 : BitVec 32 := Scalar.muli arg9 c1_i32_1
  let v5 : BitVec 32 := Scalar.addi c0_i32_2 v4
  let c8_i32 : BitVec 32 := 8#32
  let v6 : BitVec 32 := Scalar.muli v5 c8_i32
  let v7 : BitVec 32 := Scalar.addi v2 v6
  let c0_i32_452_r0 : BitVec 32 := 0#32
  ![v7.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1000000 : Shape := ⟨1, ![1000000]⟩
abbrev S4194304 : Shape := ⟨1, ![4194304]⟩
abbrev S1000000x1 : Shape := ⟨2, ![1000000, 1]⟩
abbrev S7 : Shape := ⟨1, ![7]⟩
abbrev S1x7 : Shape := ⟨2, ![1, 7]⟩
abbrev S_ : Shape := ⟨0, ![]⟩
abbrev S1000000x7 : Shape := ⟨2, ![1000000, 7]⟩
abbrev S16777216 : Shape := ⟨1, ![16777216]⟩
abbrev S7000000 : Shape := ⟨1, ![7000000]⟩
abbrev S7000000x1 : Shape := ⟨2, ![7000000, 1]⟩
abbrev S4194304x1 : Shape := ⟨2, ![4194304, 1]⟩
abbrev S4194304x7 : Shape := ⟨2, ![4194304, 7]⟩
abbrev S4194304x7x1 : Shape := ⟨3, ![4194304, 7, 1]⟩

abbrev nBuf : Space → Nat
  | .hbm => 55
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S4194304, .i32⟩
  | .hbm, ⟨2, _⟩ => ⟨S1000000, .i32⟩
  | .hbm, ⟨3, _⟩ => ⟨S1000000x1, .i32⟩
  | .hbm, ⟨4, _⟩ => ⟨S7, .i32⟩
  | .hbm, ⟨5, _⟩ => ⟨S1x7, .i32⟩
  | .hbm, ⟨6, _⟩ => ⟨S_, .i32⟩
  | .hbm, ⟨7, _⟩ => ⟨S1000000x1, .i32⟩
  | .hbm, ⟨8, _⟩ => ⟨S1000000x1, .i32⟩
  | .hbm, ⟨9, _⟩ => ⟨S1000000x7, .i32⟩
  | .hbm, ⟨10, _⟩ => ⟨S1000000x7, .i32⟩
  | .hbm, ⟨11, _⟩ => ⟨S1000000x7, .i32⟩
  | .hbm, ⟨12, _⟩ => ⟨S_, .i32⟩
  | .hbm, ⟨13, _⟩ => ⟨S1000000x7, .i32⟩
  | .hbm, ⟨14, _⟩ => ⟨S1000000x7, .i32⟩
  | .hbm, ⟨15, _⟩ => ⟨S1000000x7, .i32⟩
  | .hbm, ⟨16, _⟩ => ⟨S_, .i1⟩
  | .hbm, ⟨17, _⟩ => ⟨S16777216, .i1⟩
  | .hbm, ⟨18, _⟩ => ⟨S7000000, .i32⟩
  | .hbm, ⟨19, _⟩ => ⟨S_, .i32⟩
  | .hbm, ⟨20, _⟩ => ⟨S7000000, .i32⟩
  | .hbm, ⟨21, _⟩ => ⟨S7000000, .i1⟩
  | .hbm, ⟨22, _⟩ => ⟨S_, .i32⟩
  | .hbm, ⟨23, _⟩ => ⟨S7000000, .i32⟩
  | .hbm, ⟨24, _⟩ => ⟨S7000000, .i32⟩
  | .hbm, ⟨25, _⟩ => ⟨S7000000, .i32⟩
  | .hbm, ⟨26, _⟩ => ⟨S7000000x1, .i32⟩
  | .hbm, ⟨27, _⟩ => ⟨S_, .i1⟩
  | .hbm, ⟨28, _⟩ => ⟨S7000000, .i1⟩
  | .hbm, ⟨29, _⟩ => ⟨S16777216, .i1⟩
  | .hbm, ⟨30, _⟩ => ⟨S4194304, .i32⟩
  | .hbm, ⟨31, _⟩ => ⟨S4194304x1, .i32⟩
  | .hbm, ⟨32, _⟩ => ⟨S7, .i32⟩
  | .hbm, ⟨33, _⟩ => ⟨S1x7, .i32⟩
  | .hbm, ⟨34, _⟩ => ⟨S_, .i32⟩
  | .hbm, ⟨35, _⟩ => ⟨S4194304x1, .i32⟩
  | .hbm, ⟨36, _⟩ => ⟨S4194304x1, .i32⟩
  | .hbm, ⟨37, _⟩ => ⟨S4194304x7, .i32⟩
  | .hbm, ⟨38, _⟩ => ⟨S4194304x7, .i32⟩
  | .hbm, ⟨39, _⟩ => ⟨S4194304x7, .i32⟩
  | .hbm, ⟨40, _⟩ => ⟨S_, .i32⟩
  | .hbm, ⟨41, _⟩ => ⟨S4194304x7, .i32⟩
  | .hbm, ⟨42, _⟩ => ⟨S4194304x7, .i32⟩
  | .hbm, ⟨43, _⟩ => ⟨S4194304x7, .i32⟩
  | .hbm, ⟨44, _⟩ => ⟨S_, .i32⟩
  | .hbm, ⟨45, _⟩ => ⟨S4194304x7, .i32⟩
  | .hbm, ⟨46, _⟩ => ⟨S4194304x7, .i1⟩
  | .hbm, ⟨47, _⟩ => ⟨S_, .i32⟩
  | .hbm, ⟨48, _⟩ => ⟨S4194304x7, .i32⟩
  | .hbm, ⟨49, _⟩ => ⟨S4194304x7, .i32⟩
  | .hbm, ⟨50, _⟩ => ⟨S4194304x7, .i32⟩
  | .hbm, ⟨51, _⟩ => ⟨S4194304x7x1, .i32⟩
  | .hbm, ⟨52, _⟩ => ⟨S4194304x7, .i1⟩
  | .hbm, ⟨53, _⟩ => ⟨S_, .i1⟩
  | .hbm, ⟨54, _⟩ => ⟨S4194304, .i1⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_v34 : Ref sig .tc := ⟨.hbm, 45, rfl⟩
abbrev main_v35 : Ref sig .tc := ⟨.hbm, 46, rfl⟩
abbrev main_c_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_9 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Proof.Streams.lean ====
/-
  Several indirect streams in flight on one semaphore. A stream of `o` entries is `o` transfers of one amount, so the
  streams together are one batch of transfers (`Transfers.Batch`): each stream is issued against the next `o` members of the
  batch, and the waits drain it. Beside that: an assertion in write mode cut along its share into any number of pieces, and
  the pieces put together again, their marks joined.
-/
module

public import Idealize.ShloMosaic.Lib.Batch
public import Idealize.ShloMosaic.Lib.WriteMode
public import Idealize.ShloMosaic.Lib.SparseCore.Scatter

@[expose] public section

noncomputable section

namespace Bloom

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers

/-! ## Write mode along the share -/

section WriteShares

variable {nD : Nat} {τ : Topo} {sig : RefSig} {Ix : Type} [DecidableEq Ix] {Val : EltTy → Type} {Name : Type} [DecidableEq Name]
variable {U : Type} [URA U] {Lvl : Type} [Preorder Lvl] {emb : UEmb (WmRA nD τ sig Val) U}

local notation "𝕄" => MT nD τ sig Ix Val Name U Lvl

variable {ℓ : Loc nD τ sig} {I : Finset (Idx ℓ)} {f : Buf Val ℓ} {g : Tgt Val ℓ}

/-- A holder in write mode is `n + 1` holders at the pieces of its share, each with its marks. -/
theorem willBeTo_pieces (W : Finset (Idx ℓ)) : ∀ (n : ℕ) (q : PosShare TreeShare),
    (willBeTo emb ℓ I q f g W : sProp 𝕄) ⊢ bigSep Finset.univ fun k : Fin (n + 1) => willBeTo emb ℓ I (piece q n k) f g W
  | 0, q => Entails.of_eq (BI.bigSep_univ_of_subsingleton (0 : Fin 1) (Φ := fun k : Fin 1 => (willBeTo emb ℓ I (piece q 0 k) f g W : sProp 𝕄))).symm
  | n + 1, q => by
    haveI : IsOp q q.left q.right := ⟨PosShare.mem_left_op_right q⟩
    rw [bigSep_univ_succ]
    iintro H
    icases H with ⟨Hl, Hr⟩
    isplitl [Hl]
    · iexact Hl
    · iapply (willBeTo_pieces W n q.right) $$ Hr

/-- Holders at the pieces of a share, each with its own marks, are one holder with all the marks. -/
theorem willBeTo_join : ∀ (n : ℕ) (q : PosShare TreeShare) (W : Fin (n + 1) → Finset (Idx ℓ)),
    (bigSep Finset.univ fun k : Fin (n + 1) => (willBeTo emb ℓ I (piece q n k) f g (W k) : sProp 𝕄))
      ⊢ willBeTo emb ℓ I q f g (Finset.univ.biUnion W)
  | 0, q, W => by
    rw [show (Finset.univ : Finset (Fin 1)).biUnion W = W 0 by simp]
    exact Entails.of_eq (BI.bigSep_univ_of_subsingleton (0 : Fin 1) (Φ := fun k : Fin 1 => (willBeTo emb ℓ I (piece q 0 k) f g (W k) : sProp 𝕄)))
  | n + 1, q, W => by
    haveI : IsOp q q.left q.right := ⟨PosShare.mem_left_op_right q⟩
    rw [bigSep_univ_succ, show (Finset.univ : Finset (Fin (n + 1 + 1))).biUnion W = W 0 ∪ Finset.univ.biUnion fun k : Fin (n + 1) => W k.succ by
      ext x; simp [Fin.exists_fin_succ]]
    refine (sep_mono (show _ ⊢ (willBeTo emb ℓ I q.left f g (W 0) : sProp 𝕄) from .rfl) (willBeTo_join n q.right fun k => W k.succ)).trans ?_
    iintro ⟨Hl, Hr⟩
    icombine Hl Hr as H
    iexact H

/-- The same over any positive number of pieces. -/
theorem willBeTo_piecesOf (W : Finset (Idx ℓ)) {o : ℕ} (ho : 0 < o) (q : PosShare TreeShare) :
    (willBeTo emb ℓ I q f g W : sProp 𝕄) ⊢ bigSep Finset.univ fun k : Fin o => willBeTo emb ℓ I (pieceOf q o ho k) f g W := by
  obtain ⟨n, rfl⟩ : ∃ n, o = n + 1 := ⟨o - 1, by omega⟩
  exact willBeTo_pieces W n q

theorem willBeTo_joinOf {o : ℕ} (ho : 0 < o) (q : PosShare TreeShare) (W : Fin o → Finset (Idx ℓ)) :
    (bigSep Finset.univ fun k : Fin o => (willBeTo emb ℓ I (pieceOf q o ho k) f g (W k) : sProp 𝕄))
      ⊢ willBeTo emb ℓ I q f g (Finset.univ.biUnion W) := by
  obtain ⟨n, rfl⟩ : ∃ n, o = n + 1 := ⟨o - 1, by omega⟩
  exact willBeTo_join n q W

end WriteShares

/-! ## The members of a batch that are not yet issued -/

section Pending

variable {M : Type} [URA M] {n : ℕ}

/-- The members from `b` on are the next `o` and those from `b + o` on. -/
theorem bigSep_pending_add (Φ : Fin n → sProp M) (b o : ℕ) (h : b + o ≤ n) :
    bigSep (pending b) Φ = iprop((bigSep Finset.univ fun k : Fin o => Φ ⟨b + k.val, by omega⟩) ∗ bigSep (pending (b + o)) Φ) := by
  let e : Fin o ↪ Fin n := ⟨fun k => ⟨b + k.val, by omega⟩, fun k k' hk => Fin.ext (by have := Fin.mk.inj hk; omega)⟩
  have hs : pending (n := n) b = (Finset.univ.map e) ∪ pending (b + o) := by
    ext t
    simp only [pending, Finset.mem_filter, Finset.mem_univ, true_and, Finset.mem_union, Finset.mem_map]
    constructor
    · intro ht
      by_cases h' : b + o ≤ t.val
      · exact .inr h'
      · exact .inl ⟨⟨t.val - b, by omega⟩, Fin.ext (show b + (t.val - b) = t.val by omega)⟩
    · rintro (⟨k, rfl⟩ | h')
      · exact Nat.le_add_right _ _
      · omega
  have hd : Disjoint (Finset.univ.map e) (pending (n := n) (b + o)) := by
    rw [Finset.disjoint_left]
    intro t ht ht'
    obtain ⟨k, -, rfl⟩ := Finset.mem_map.mp ht
    have h1 : b + o ≤ b + k.val := (Finset.mem_filter.mp ht').2
    have := k.isLt; omega
  rw [hs, BI.bigSep_union hd, BI.bigSep_map]
  rfl

/-- A family over `a * o` members laid out in `a` runs of `o`. -/
theorem bigSep_runs {a o : ℕ} (Φ : Fin a → Fin o → sProp M) :
    (bigSep Finset.univ fun t : Fin (a * o) => Φ (finProdFinEquiv.symm t).1 (finProdFinEquiv.symm t).2)
      = bigSep Finset.univ fun j : Fin a => bigSep Finset.univ fun k : Fin o => Φ j k := by
  rw [← BI.bigSep_univ_prod (fun x : Fin a × Fin o => Φ x.1 x.2)]
  exact (BI.bigSep_univ_equiv finProdFinEquiv.symm (fun x : Fin a × Fin o => Φ x.1 x.2)).symm

end Pending

/-! ## Issuing one stream against the next members of a batch -/

section Issue

variable {nD : Nat} {τ : Topo} {sig : RefSig} {Ix : Type} [DecidableEq Ix] {Val : EltTy → Type} {Name : Type} [DecidableEq Name]
variable {U : Type} [URA U] {Lvl : Type} [Preorder Lvl] {Λ : Labels}
variable {defs : Defs nD τ sig Val Λ} (EC : UEmb Counters (MT nD τ sig Ix Val Name U Lvl)) (𝒱 : Variants) (c : Thread nD τ) (bd : Option 𝒱.V)
variable {si : Shape} {o n : ℕ} {sem : DmaSem sig} {α : Type} {Q : α → sProp (MT nD τ sig Ix Val Name U Lvl)}

local notation "𝕄" => MT nD τ sig Ix Val Name U Lvl

/-- An indirect stream at the head of a program: holding the offset list (any share `qo`), per entry a share of the row's
    source and what its write asks (`Y k`, with the shared `I`), the stream's entries go to members `b …, b + o` of the batch,
    each delivering what its write leaves, its entry of the list and its source's share. -/
theorem wp_issueStream [EC.LandsIn (upEmb : UEmb _ 𝕄)]
    {hp : c.2.kind = .scVector} {offs : Memref sig c.2.kind .vmem si .i32} {hn : si.numel = o}
    {row : Fin o → Val .i32 → Option (RowDma τ sig Val c.2 sem)}
    {k : PUnit → Prog (TpuEff nD τ sig Val Λ c.2) α}
    {qo : PosShare TreeShare} {fo : Buf Val (offs.view.loc c)} {rd : Fin o → RowDma τ sig Val c.2 sem}
    {D : Fin n → sProp 𝕄} {b : ℕ} (ι : Ix) (N : ℕ)
    (hA : (Stream.issued c offs.view hn sem row 0).RowsAgree)
    (hrd : ∀ k, row k ((Stream.issued c offs.view hn sem row 0).word fo k) = some (rd k))
    (hN : ∀ k, (rd k).dst.view.dmaCredit = N) (hb : b + o ≤ n)
    (q : Fin o → PosShare TreeShare) (fs : (k : Fin o) → Buf Val ((rd k).src.view.loc c)) (X Y : Fin o → sProp 𝕄)
    (I : sProp 𝕄) [BI.Persistent I]
    (hW : ∀ k, iprop(I ∗ Y k) ⊢ writeUpdate c (rd k).dst.view ((rd k).via.apply ((rd k).src.view.read Val (fs k))) (X k))
    (hD : ∀ k, iprop((X k ∗ (Stream.issued c offs.view hn sem row 0).heldEntry qo fo k) ∗ ((rd k).src.view.loc c ↦[(rd k).src.view.set]{q k} fs k))
      ⊢ D ⟨b + k.val, by omega⟩) :
    iprop(I ∗ (offs.view.loc c ↦[offs.view.set]{qo} fo)
        ∗ (bigSep Finset.univ fun k : Fin o => iprop(((rd k).src.view.loc c ↦[(rd k).src.view.set]{q k} fs k) ∗ Y k))
        ∗ Batch EC c (.dma sem) ι N D b 0)
      ⊢ iprop((Batch EC c (.dma sem) ι N D (b + o) 0 -∗ wp frame (wpE defs 𝒱 c bd) Set.univ (k ⟨⟩) Q)
          -∗ wp frame (wpE defs 𝒱 c bd) Set.univ (.op (.enqueueIndirectDma hp offs hn sem row) k) Q) := by
  classical
  let S : Stream nD τ sig Val := Stream.issued c offs.view hn sem row 0
  have hen : Function.Bijective S.entry := (si.rowMajor.symm.bijective.comp (finCongr hn.symm).bijective)
  unfold Batch
  iintro ⟨#HI, Ho, Hs, ⟨%γ, %γ₀, %κ, #Hinv, Hp, H0, Hcred⟩⟩ Hk
  ihave Hp' := (Entails.of_eq (bigSep_pending_add (fun t => count EC (γ t) 0) b o hb)) $$ Hp
  icases Hp' with ⟨Ht, Hp⟩
  ihave Ho' := (Entails.of_eq (pointsTo_entries c offs.view S.entry hen qo fo)) $$ Ho
  iapply (wp_enqueueIndirectDma 𝒱 c bd Set.univ (qo := qo) (fo := fo) (rd := rd) ι (o * N) hA hrd (by rw [Finset.sum_congr rfl fun k _ => hN k]; simp)) $$ [Ho' Hs Ht]
  · have hrow : ∀ j : Fin o, iprop(iprop(I ∗ inv κ (batchBody EC (c, SemLoc.dma sem) N D γ γ₀))
          ∗ ((S.heldEntry qo fo j ∗ (((rd j).src.view.loc c ↦[(rd j).src.view.set]{q j} fs j) ∗ Y j)) ∗ count EC (γ ⟨b + j.val, by omega⟩) 0))
        ⊢ iprop(S.heldEntry qo fo j ∗ (S.heldEntry qo fo j -∗ rowRes c (rd j))) := fun j => by
      iintro ⟨⟨#HI, #Hinv⟩, ⟨He, Hsq, HY⟩, Hγ⟩
      isplitl [He]; · iexact He
      iintro He
      unfold rowRes
      iexists q j, fs j, iprop(X j ∗ S.heldEntry qo fo j)
      isplitl [Hsq]; · iexact Hsq
      isplitl [HY He]
      · iapply writeUpdate_frame
        isplitl [HY]
        · iapply (hW j)
          isplitr; · iexact HI
          iexact HY
        · iexact He
      · iapply (Entails.of_eq (congrArg (fun m => (creditUpdate (c, SemLoc.dma sem) m 0
            iprop((X j ∗ S.heldEntry qo fo j) ∗ ((rd j).src.view.loc c ↦[(rd j).src.view.set]{q j} fs j)) : sProp 𝕄)) (show N = (rd j).dst.view.amount (.dma sem) from (hN j).symm)))
        iapply (batch_creditUpdate EC ⟨b + j.val, by omega⟩ (hD j))
        isplitr; · iexact Hinv
        iexact Hγ
    unfold Stream.res
    ihave H1 := Transfers.bigSep_sep_in _ _ _ $$ [Ho' Hs]; · isplitl [Ho'] <;> iassumption
    ihave H2 := Transfers.bigSep_sep_in _ _ _ $$ [H1 Ht]; · isplitl [H1] <;> iassumption
    iapply (Transfers.bigSep_mono_pers Finset.univ _ _ _ fun j _ => hrow j)
    isplitr
    · isplitr; · iexact HI
      iexact Hinv
    iexact H2
  iintro Hcred'
  iapply Hk
  iexists γ, γ₀, κ
  isplitr; · iexact Hinv
  isplitl [Hp]; · iexact Hp
  isplitl [H0]; · iexact H0
  rw [show (b + o) * N - 0 = (b * N - 0) + o * N by rw [Nat.sub_zero, Nat.sub_zero, Nat.add_mul], ← tallyAt_add]
  icombine Hcred Hcred' as H
  iexact H

end Issue

/-! ## Gathers and scatters -/

section Kinds

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a n : Nat} {α : Type} {Q : α → sProp (MT nD τ sig Ix (Elt F) Name U Lvl)}

local notation "𝕄" => MT nD τ sig Ix (Elt F) Name U Lvl

/-- The entry of an offset list that row `k` of a stream reads. -/
def entryOf (si : Shape) {o : ℕ} (hn : si.numel = o) (k : Fin o) : si.Idx := si.rowMajor.symm (k.cast hn.symm)

theorem entryOf_bijective {o : ℕ} (hn : si.numel = o) : Function.Bijective (entryOf si hn) :=
  si.rowMajor.symm.bijective.comp (finCongr hn.symm).bijective

/-- A share of one entry of an offset list. -/
def entryPts (offs : Memref sig c.2.kind .vmem si .i32) {o : ℕ} (hn : si.numel = o) (qo : PosShare TreeShare)
    (fo : Buf (Elt F) (offs.view.loc c)) (k : Fin o) : sProp 𝕄 :=
  offs.view.loc c ↦[{offs.view.emb (entryOf si hn k)}]{qo} fo

/-- What entry `k` of a gather leaves: row `k` of the target holding the row of the source that the entry names, the entry,
    and its piece of the source's share. -/
def gatherEntry (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) : sProp 𝕄 :=
  iprop(((dst.view.loc c ↦[(dst.view.slice (s.rowRect hg.axis' k)).set]{fullShare}
        ((dst.view.slice (s.rowRect hg.axis' k)).write (Elt F) fd
          (fun i => src.view.read (Elt F) fs (hg.rowIdx (rows (offs.view.read (Elt F) fo) hn hin k) i)) Finset.univ))
      ∗ entryPts c offs hn qo fo k)
    ∗ (src.view.loc c ↦[src.view.set]{pieceOf q _ ho k} fs))

/-- All the entries of a gather together: the target written with what the list gathers, the source's share, the list's. -/
theorem gatherEntry_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (gatherEntry c src dst hg offs hn ho q qo fs fd fo hin : _ → sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hw : (bigSep Finset.univ fun k => (dst.view.loc c ↦[(dst.view.slice (s.rowRect hg.axis' k)).set]{fullShare}
        ((dst.view.slice (s.rowRect hg.axis' k)).write (Elt F) fd
          (fun i => src.view.read (Elt F) fs (hg.rowIdx (rows (offs.view.read (Elt F) fo) hn hin k) i)) Finset.univ) : sProp 𝕄))
      ⊢ (dst.view.loc c ↦[dst.view.set]{fullShare}
          (dst.view.write (Elt F) fd (gatherPayload hg (src.view.read (Elt F) fs) (rows (offs.view.read (Elt F) fo) hn hin)) Finset.univ)) :=
    pointsTo_rows_write c dst.view hg.axis' fd _ _ (fun j i => by unfold gatherPayload; rw [Shape.Gathers.idx_rowRect_emb])
  unfold gatherEntry entryPts
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply hw $$ Hrows
  isplitl [Hsrc]; · iapply (Entails.of_eq (pointsTo_piecesOf (src.view.set) fs ho q).symm) $$ Hsrc
  iapply (Entails.of_eq (pointsTo_entries c offs.view (entryOf si hn) (entryOf_bijective hn) qo fo).symm) $$ Hoffs

/-- The issue of a gather whose entries are members `b …` of a batch. -/
theorem wp_issueGather [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {D : Fin n → sProp 𝕄} {b : ℕ} (ι : Ix) (N : ℕ) (ho : 0 < s.size hg.axis')
    (hN : ∀ j, (dst.slice (s.rowRect hg.axis' j) (s.stride_rowRect hg.axis' j)).view.dmaCredit = N)
    (hin : ∀ x, (offs.view.read (Elt F) fo x).toNat < s₀.size hg.axis) (hb : b + s.size hg.axis' ≤ n)
    (hD : ∀ j : Fin (s.size hg.axis'), gatherEntry c src dst hg offs hn ho q qo fs fd fo hin j ⊢ D ⟨b + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D b 0)
      ⊢ iprop((Batch EC c (.dma sem) ι N D (b + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  iintro ⟨Hs, Hd, Ho, HB⟩
  ihave Hd' := (Entails.of_eq (pointsTo_rows c dst.view hg.axis' fullShare fd)) $$ Hd
  ihave Hs' := (Entails.of_eq (pointsTo_piecesOf (src.view.set) fs ho q)) $$ Hs
  ihave H1 := Transfers.bigSep_sep_in _ _ _ $$ [Hs' Hd']; · isplitl [Hs'] <;> iassumption
  iapply (wp_issueStream EC 𝒱 c bd (qo := qo) (fo := fo)
    (rd := fun j => gatherRow c src dst hg sem hsrc he hsp hr j (rows (offs.view.read (Elt F) fo) hn hin j)) ι N
    (fun j x x' ρ ρ' h h' => by
      obtain ⟨_, _, rfl⟩ := Option.map_eq_some_iff.mp h
      obtain ⟨_, _, rfl⟩ := Option.map_eq_some_iff.mp h'
      rfl)
    (fun j => by
      change (rowOf (s₀.size hg.axis) (offs.view.read (Elt F) fo (entryOf si hn j))).map _ = _
      rw [rowOf_of_lt (hin _)]; rfl)
    hN hb (fun j => pieceOf q _ ho j) (fun _ => fs)
    (fun j => iprop(dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ)))
    (fun j => iprop(dst.view.loc c ↦[(dst.view.slice (s.rowRect hg.axis' j)).set]{fullShare} fd))
    iprop(emp)
    (fun j => sep_elim_right.trans (pointsTo_writeUpdate c (v := dst.view.slice (s.rowRect hg.axis' j)) subset_rfl))
    hD)
  isplitr; · iempintro
  isplitl [Ho]; · iexact Ho
  isplitl [H1] <;> iassumption

/-- What entry `k` of a scatter in write mode leaves: its piece of the target's write-mode share, marked on the row the entry
    names, the entry, and its row of the source. -/
def scatterEntry (emb : UEmb (WmRA nD τ sig (Elt F)) U) (src : Memref sig c.2.kind .vmem s e) (dst : Memref sig c.2.kind sp s₀ e) (hg : s₀.Gathers a s)
    (offs : Memref sig c.2.kind .vmem si .i32) (hn : si.numel = s.size hg.axis') (ho : 0 < s.size hg.axis')
    (q qo qd : PosShare TreeShare) (fs : Buf (Elt F) (src.view.loc c)) (fd : Buf (Elt F) (dst.view.loc c)) (g : Tgt (Elt F) (dst.view.loc c))
    (W : Finset (Idx (dst.view.loc c))) (fo : Buf (Elt F) (offs.view.loc c))
    (hin : ∀ x, (offs.view.read (Elt F) fo x).toNat < s₀.size hg.axis) (k : Fin (s.size hg.axis')) : sProp 𝕄 :=
  iprop((willBeTo emb (dst.view.loc c) Finset.univ (pieceOf qd _ ho k) fd g
          (W ∪ (dst.view.slice (s₀.rowRect hg.axis (rows (offs.view.read (Elt F) fo) hn hin k))).set)
      ∗ entryPts c offs hn qo fo k)
    ∗ (src.view.loc c ↦[(src.view.slice (s.rowRect hg.axis' k)).set]{q} fs))

/-- All the entries of a scatter in write mode together: the target's share marked on every row the list names, the source's
    share, the list's. -/
theorem scatterEntry_join (emb : UEmb (WmRA nD τ sig (Elt F)) U) (src : Memref sig c.2.kind .vmem s e) (dst : Memref sig c.2.kind sp s₀ e) (hg : s₀.Gathers a s)
    (offs : Memref sig c.2.kind .vmem si .i32) (hn : si.numel = s.size hg.axis') (ho : 0 < s.size hg.axis')
    (q qo qd : PosShare TreeShare) (fs : Buf (Elt F) (src.view.loc c)) (fd : Buf (Elt F) (dst.view.loc c)) (g : Tgt (Elt F) (dst.view.loc c))
    (W : Finset (Idx (dst.view.loc c))) (fo : Buf (Elt F) (offs.view.loc c))
    (hin : ∀ x, (offs.view.read (Elt F) fo x).toNat < s₀.size hg.axis) :
    bigSep Finset.univ (scatterEntry c emb src dst hg offs hn ho q qo qd fs fd g W fo hin : _ → sProp 𝕄)
      ⊢ iprop(willBeTo emb (dst.view.loc c) Finset.univ qd fd g
            (Finset.univ.biUnion fun k => W ∪ (dst.view.slice (s₀.rowRect hg.axis (rows (offs.view.read (Elt F) fo) hn hin k))).set)
          ∗ (src.view.loc c ↦[src.view.set]{q} fs) ∗ (offs.view.loc c ↦[offs.view.set]{qo} fo)) := by
  unfold scatterEntry entryPts
  iintro HD
  ihave H1 := Transfers.bigSep_sep_out _ _ _ $$ HD
  icases H1 with ⟨H2, Hsrc⟩
  ihave H3 := Transfers.bigSep_sep_out _ _ _ $$ H2
  icases H3 with ⟨Hw, Hoffs⟩
  isplitl [Hw]
  · iapply (willBeTo_joinOf ho qd fun k => W ∪ (dst.view.slice (s₀.rowRect hg.axis (rows (offs.view.read (Elt F) fo) hn hin k))).set) $$ Hw
  isplitl [Hsrc]; · iapply (Entails.of_eq (pointsTo_rows c src.view hg.axis' q fs).symm) $$ Hsrc
  iapply (Entails.of_eq (pointsTo_entries c offs.view (entryOf si hn) (entryOf_bijective hn) qo fo).symm) $$ Hoffs

/-- The issue of a scatter, the target in write mode at any share of all of it, whose entries are members `b …` of a batch. The
    list may name a row twice: every value it writes is the one the holders have agreed on (`hadm`). -/
theorem wp_issueScatter [EC.LandsIn (upEmb : UEmb _ 𝕄)] (emb : UEmb (WmRA nD τ sig (Elt F)) U) (ιwm : Name)
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo qd : PosShare TreeShare} {fs : Buf (Elt F) (src.view.loc c)} {fd : Buf (Elt F) (dst.view.loc c)} {g : Tgt (Elt F) (dst.view.loc c)}
    {W : Finset (Idx (dst.view.loc c))} {fo : Buf (Elt F) (offs.view.loc c)}
    {D : Fin n → sProp 𝕄} {b : ℕ} (ι : Ix) (N : ℕ) (ho : 0 < s.size hg.axis')
    (hN : ∀ r, (dst.slice (s₀.rowRect hg.axis r) (s₀.stride_rowRect hg.axis r)).view.dmaCredit = N)
    (hin : ∀ x, (offs.view.read (Elt F) fo x).toNat < s₀.size hg.axis) (hb : b + s.size hg.axis' ≤ n)
    (hadm : ∀ j r, (dst.view.slice (s₀.rowRect hg.axis r)).Admitted (Elt F) g (scatterRowPayload c src hg fs j) Finset.univ)
    (hD : ∀ j : Fin (s.size hg.axis'), scatterEntry c emb src dst hg offs hn ho q qo qd fs fd g W fo hin j ⊢ D ⟨b + j.val, by omega⟩) :
    iprop(wmInv emb ιwm ∗ (src.view.loc c ↦[src.view.set]{q} fs) ∗ willBeTo emb (dst.view.loc c) Finset.univ qd fd g W
        ∗ (offs.view.loc c ↦[offs.view.set]{qo} fo) ∗ Batch EC c (.dma sem) ι N D b 0)
      ⊢ iprop((Batch EC c (.dma sem) ι N D (b + s.size hg.axis') 0 -∗ wp frame (wpE defs 𝒱 c bd) Set.univ (k ⟨⟩) Q)
          -∗ wp frame (wpE defs 𝒱 c bd) Set.univ (enqueueIndirectScatter hp src dst hg offs hn sem he hsp hr >>= k) Q) := by
  rw [enqueueIndirectScatter_bind]
  let rd : Fin (s.size hg.axis') → RowDma τ sig (Elt F) c.2 sem := fun j => scatterRow c src dst hg sem he hsp hr j (rows (offs.view.read (Elt F) fo) hn hin j)
  have hsrcset : ∀ j, (src.view.slice (s.rowRect hg.axis' j)).set = (rd j).src.view.set := fun j =>
    (View.set_cast (v := src.view.slice (s.rowRect hg.axis' j)) _ _).symm
  iintro ⟨#Hi, Hs, Hd, Ho, HB⟩
  ihave Hd' := (willBeTo_piecesOf W ho qd) $$ Hd
  ihave Hs' := (Entails.of_eq ((pointsTo_rows c src.view hg.axis' q fs).trans (congrArg (bigSep Finset.univ) (funext fun j =>
    congrArg (fun I => (src.view.loc c ↦[I]{q} fs : sProp 𝕄)) (hsrcset j))))) $$ Hs
  ihave H1 := Transfers.bigSep_sep_in _ _ _ $$ [Hs' Hd']; · isplitl [Hs'] <;> iassumption
  iapply (wp_issueStream EC 𝒱 c bd (qo := qo) (fo := fo) (rd := rd) ι N
    (fun j x x' ρ ρ' h h' => by
      obtain ⟨_, _, rfl⟩ := Option.map_eq_some_iff.mp h
      obtain ⟨_, _, rfl⟩ := Option.map_eq_some_iff.mp h'
      rfl)
    (fun j => by
      change (rowOf (s₀.size hg.axis) (offs.view.read (Elt F) fo (entryOf si hn j))).map _ = _
      rw [rowOf_of_lt (hin _)]; rfl)
    (fun j => hN _) hb (fun _ => q) (fun _ => fs)
    (fun j => willBeTo emb (dst.view.loc c) Finset.univ (pieceOf qd _ ho j) fd g
          (W ∪ (dst.view.slice (s₀.rowRect hg.axis (rows (offs.view.read (Elt F) fo) hn hin j))).set))
    (fun j => willBeTo emb (dst.view.loc c) Finset.univ (pieceOf qd _ ho j) fd g W)
    (wmInv emb ιwm)
    (fun j => willBeTo_writeUpdate c (v := dst.view.slice (s₀.rowRect hg.axis (rows (offs.view.read (Elt F) fo) hn hin j))) (Finset.subset_univ _) (hadm j _))
    (fun j => by rw [← hsrcset j]; exact hD j))
  isplitr; · iexact Hi
  isplitl [Ho]; · iexact Ho
  isplitl [H1] <;> iassumption

end Kinds

end Bloom

end

end
-- ==== Proof.KernelIdeal.Common.lean ====
/-
  The program as the launch theorem sees it, the resource algebra, the hash, and the facts about the scratch rows that both
  vector-subcore kernels share.
-/
module

public import proofs.«01_k».proof.Proof.Streams
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl⟩

/-! ## The resource algebra: the handshakes' rounds, the pipeline's rounds, write mode, the transfers' counters -/

abbrev UH : Type := URounds (GSem nD τ sig) ℕ
abbrev UP : Type := URounds (GSem nD τ sig) Unit
abbrev UU (F : FTy → Type) : Type := UH × (UP × (WmRA nD τ sig (Elt F) × Counters))

local notation "𝕄" => MT nD τ sig (HIx 2) (Elt F) ℕ (UU F) ℕ

abbrev EH : Emb UH (MT nD τ sig (HIx 2) (Elt F) ℕ (UU F) ℕ) := embL
abbrev EP : Emb UP (MT nD τ sig (HIx 2) (Elt F) ℕ (UU F) ℕ) := (Emb.inl : Emb UP (UP × (WmRA nD τ sig (Elt F) × Counters))).trans embR
/-- Write mode's place in the algebra. -/
abbrev wm : UEmb (WmRA nD τ sig (Elt F)) (UU F) := UEmb.inl.trans (UEmb.inr.trans UEmb.inr)

/-! ## The hash -/

/-- Both kernels' hash: the product with the odd constant, its low 24 bits. -/
def hash (v : BitVec 32) : BitVec 32 := (v * 2654435761#32) &&& 16777215#32

theorem hash_lt (v : BitVec 32) : (hash v).toNat < 16777216 := by
  unfold hash
  have h : ((v * 2654435761#32) &&& 16777215#32).toNat ≤ (16777215#32 : BitVec 32).toNat := by
    rw [BitVec.toNat_and]; exact Nat.and_le_right
  exact lt_of_le_of_lt h (by decide)

/-- The bit a value's hash names. -/
def pos (v : BitVec 32) : S16777216.Idx := fun a => ⟨(hash v).toNat, by have h : a = 0 := Subsingleton.elim _ _; subst h; exact hash_lt v⟩

/-- The hash of one vector of sixteen lanes, as the kernels compute it. -/
def hashVec (v : Vec F S1x16 .i32) : IVec S1x16 32 :=
  shapeCast S1x16 (andi (muli (shapeCast S16 v shapeCasts_S1x16_S16) (broadcast S16 2654435761#32)) (broadcast S16 16777215#32)) shapeCasts_S16_S1x16

theorem hashVec_apply (v : Vec F S1x16 .i32) (x : S1x16.Idx) : hashVec v x = hash (v x) := by
  show hash (v (Shape.reshapeEquiv _ (Shape.reshapeEquiv _ x))) = hash (v x)
  exact congrArg hash (congrArg v ((Shape.reshapeEquiv_reshapeEquiv _ _ x).trans (Shape.reshapeEquiv_self _ x)))

/-! ## The rows of an 8 × 128 scratch -/

theorem inb_row (j : Fin 8) : ∀ a, (![j.val, 0] : Fin 2 → Nat) a + S1x128.size a ≤ S8x128.size a := by
  intro a; match a with
  | 0 => show j.val + 1 ≤ 8; omega
  | 1 => show 0 + 128 ≤ 128; omega

/-- Row `j` of an 8 × 128 scratch, as the kernels address it. -/
abbrev rowM (v : Memref sig .scVector .vmem S8x128 .i32) (j : Fin 8) : Memref sig .scVector .vmem S128 .i32 :=
  (v.slice (Rect.unit (s := S8x128) ![j.val, 0] S1x128.size (inb_row j)) (fun _ => rfl)).squeeze S128 squeezes_S1x128_S128

/-- Entry `e` of row `j`. -/
def rowIx (j : Fin 8) (x : S128.Idx) : S8x128.Idx := fun a => match a with | 0 => j | 1 => x 0

theorem rowM_emb (v : Memref sig .scVector .vmem S8x128 .i32) (j : Fin 8) (x : S128.Idx) :
    (rowM v j).view.emb x = v.view.emb (rowIx j x) := by
  show v.view.emb ((Rect.unit (s := S8x128) ![j.val, 0] S1x128.size (inb_row j)).emb (Shape.reshapeEquiv _ x)) = _
  congr 1
  rw [Shape.reshapeEquiv_cons_one]
  funext a
  match a with
  | 0 => exact Fin.ext (show j.val + 1 * 0 = j.val by omega)
  | 1 => exact Fin.ext (show 0 + 1 * (x 0).val = (x 0).val by omega)

theorem rowM_read (v : Memref sig .scVector .vmem S8x128 .i32) (j : Fin 8) (f : v.view.ty.Contents (Elt F)) (x : S128.Idx) :
    (rowM v j).view.read (Elt F) f x = v.view.read (Elt F) f (rowIx j x) := by
  rw [View.read_apply, View.read_apply, rowM_emb]

theorem rowM_set (v : Memref sig .scVector .vmem S8x128 .i32) (j : Fin 8) :
    (rowM v j).view.set = (v.view.slice (S8x128.rowRect 0 j)).set := by
  show ((v.view.slice (Rect.unit (s := S8x128) ![j.val, 0] S1x128.size (inb_row j))).reshape S128 _).set = _
  rw [View.set_reshape, View.set_slice, View.set_slice]
  congr 1
  ext y
  refine (Rect.mem_set_unit).trans (Iff.trans ?_ (Rect.mem_set_unit (s := S8x128)).symm)
  constructor
  · intro h a
    match a with
    | 0 => exact h 0
    | 1 => exact h 1
  · intro h a
    match a with
    | 0 => exact h 0
    | 1 => exact h 1

/-- Stored vectors that are each the hashes of the words at their places, and that cover the block, leave every word's hash. -/
theorem read_writes_hash {κ : Kind} {sp : Space} (v : View sig κ sp S8x128 .i32) (f : v.ty.Contents (Elt F)) (fx : S8x128.Idx → BitVec 32)
    (Lst : List (View.Piece (Elt F) S8x128 .i32)) (hp : ∀ p ∈ Lst, ∀ x : p.1.shape.Idx, p.2 x = hash (fx (p.1.emb x)))
    (hc : View.Piece.tiled Lst ![1, 16] = true) :
    v.read (Elt F) (v.writes (Elt F) f Lst) = fun y => hash (fx y) :=
  funext fun y => View.read_writes_apply_of_pieces (v := v) (f := f) (fun y => hash (fx y)) Lst hp y (View.cover_of_tiled Lst ![1, 16] hc y)

end Cert.KernelIdeal.Bloom
-- ==== Proof.KernelIdeal.Scatter.lean ====
/-
  The scatter's task on one vector subcore.
-/
module

public import proofs.«01_k».proof.Proof.KernelIdeal.Common

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ (UU F) ℕ

local notation "aV" => (Memref.whole Cert.KernelIdeal.main_v4_scv : Memref Cert.KernelIdeal.sig Kind.scVector Space.hbm Cert.KernelIdeal.S8192x128 EltTy.i32)
local notation "sV" => (Memref.whole Cert.KernelIdeal.main_v7_scv : Memref Cert.KernelIdeal.sig Kind.scVector Space.hbm Cert.KernelIdeal.S16777216 EltTy.i32)
local notation "xV" => (Memref.whole Cert.KernelIdeal.cc0_scratch0 : Memref Cert.KernelIdeal.sig Kind.scVector Space.vmem Cert.KernelIdeal.S8x128 EltTy.i32)
local notation "hV" => (Memref.whole Cert.KernelIdeal.cc0_scratch1 : Memref Cert.KernelIdeal.sig Kind.scVector Space.vmem Cert.KernelIdeal.S8x128 EltTy.i32)
local notation "oV" => (Memref.whole Cert.KernelIdeal.cc0_scratch2 : Memref Cert.KernelIdeal.sig Kind.scVector Space.vmem Cert.KernelIdeal.S128 EltTy.i32)

variable (d : Dev nD) (L : grid0.Coords)

abbrev thr0 : Thread nD τ := V d ((L 0).castLE hcore0) ((L 1).castLE hsub0)

/-- Every holder of the bitset writes ones. -/
abbrev ones (d : Dev nD) : Tgt (Elt F) ((SparseCore.T d : Thread nD τ).loc main_v7) := fun _ => some (1#32)

variable (va : Buf (Elt F) ((aV).view.loc (thr0 d L))) (s0 : Buf (Elt F) ((sV).view.loc (thr0 d L))) (q qd : PosShare TreeShare) (ιwm : ℕ)

/-- The bits the padded values' rows from `lo`, `n` of them, name. -/
def marks (lo n : ℕ) : Finset (Idx ((sV).view.loc (thr0 d L))) :=
  Finset.univ.filter fun x => ∃ y : S8192x128.Idx, lo ≤ (y 0).val ∧ (y 0).val < lo + n ∧ x = pos (va y)

theorem mem_marks {lo n : ℕ} {x : Idx ((sV).view.loc (thr0 d L))} :
    x ∈ marks d L va lo n ↔ ∃ y : S8192x128.Idx, lo ≤ (y 0).val ∧ (y 0).val < lo + n ∧ x = pos (va y) := by
  unfold marks; rw [Finset.mem_filter]; exact ⟨fun h => h.2, fun h => ⟨Finset.mem_univ _, h⟩⟩

/-- The tile's first row. -/
def row0 : ℕ := ((L 1).val * 2 + (L 0).val) * 256

def inv0 (O : CellTallies nD τ sig (HIx 2)) (W : Waits sig (HIx 2)) (k : Nat) (_ : PUnit) : sProp 𝕄 :=
  iprop(wmInv wm ιwm ∗ MayWaits (thr0 d L) (none : HIx 2) O
    ∗ ((aV).view.loc (thr0 d L) ↦{q} va)
    ∗ (∃ f, (xV).view.loc (thr0 d L) ↦{fullShare} f)
    ∗ (∃ f, (hV).view.loc (thr0 d L) ↦{fullShare} f)
    ∗ ((oV).view.loc (thr0 d L) ↦{fullShare} (fun _ => 1#32))
    ∗ willBeTo wm ((sV).view.loc (thr0 d L)) Finset.univ qd s0 (ones d) (marks d L va (row0 L) (8 * k))
    ∗ semVal (thr0 d L, SemLoc.dma cc0_scoped0.sem) 0
    ∗ semVal (thr0 d L, SemLoc.dma cc0_scratch3.sem) 0
    ∗ ∃ W', ⌜∀ p ∈ W', p ∈ W ∨ p.2 = none⌝ ∗ owes (thr0 d L) O W')

/-- The chunk of the padded values a trip reads. -/
abbrev chunk (k : Fin k0_t1_loop.trips) : S8x128.Idx → BitVec 32 :=
  ((aV).slice (Rect.unit (k0_off1 L k) S8x128.size (k0_off1_inb L k)) (fun _ => rfl)).view.read (Elt F) va

theorem hV_hash (fh : Buf (Elt F) ((hV).view.loc (thr0 d L))) (fx fy : S8x128.Idx → BitVec 32) (he : fx = fy)
    (Lst : List (View.Piece (Elt F) S8x128 .i32)) (hp : ∀ p ∈ Lst, ∀ x : p.1.shape.Idx, p.2 x = hash (fx (p.1.emb x)))
    (hc : View.Piece.tiled Lst ![1, 16] = true) :
    ((hV).view.loc (thr0 d L) ↦{fullShare} (hV).view.writes (Elt F) fh Lst : sProp 𝕄)
      ⊢ ((hV).view.loc (thr0 d L) ↦{fullShare} (fun y => hash (fy y))) :=
  he ▸ Entails.of_eq (congrArg (fun f => ((hV).view.loc (thr0 d L) ↦{fullShare} f : sProp 𝕄)) (read_writes_hash (hV).view fh fx Lst hp hc))

/-! ## The eight scatters of a chunk as one batch -/

/-- The bitset as the scatters address it. -/
abbrev bits : Memref sig .scVector .hbm S16777216 .i32 :=
  (sV).slice (Rect.unit (s := S16777216) ![0] S16777216.size inb_S16777216_S16777216_0) (fun _ => rfl)

/-- The hashes of a block of words. -/
abbrev hashes (fx : S8x128.Idx → BitVec 32) : Buf (Elt F) ((hV).view.loc (thr0 d L)) := fun y => hash (fx y)

theorem hin_row (fx : S8x128.Idx → BitVec 32) (j : Fin 8) (x : S128.Idx) :
    ((rowM hV j).view.read (Elt F) (hashes d L fx) x).toNat < S16777216.size gathers_S16777216_S128.axis := by
  rw [rowM_read]; exact hash_lt _

/-- What entry `k` of the scatter over row `j` leaves. -/
def entry0 (fx : S8x128.Idx → BitVec 32) (M : Finset (Idx ((sV).view.loc (thr0 d L)))) (j : Fin 8) (k : Fin 128) : sProp 𝕄 :=
  _root_.Bloom.scatterEntry (thr0 d L) wm oV bits gathers_S16777216_S128 (rowM hV j) rfl (by decide)
    (pieceOf fullShare 8 (by decide) j) fullShare (pieceOf qd 8 (by decide) j) (fun _ => 1#32) s0 (ones d) M (hashes d L fx) (hin_row d L fx j) k

instance (fx : S8x128.Idx → BitVec 32) (M) (j : Fin 8) (k : Fin 128) : Storable (upEmb : UEmb _ 𝕄) (entry0 (F := F) d L s0 qd fx M j k) := by
  unfold entry0 _root_.Bloom.scatterEntry _root_.Bloom.entryPts willBeTo BI.Region.willBe; infer_instance

/-- The members of the chunk's batch. -/
def members0 (fx : S8x128.Idx → BitVec 32) (M : Finset (Idx ((sV).view.loc (thr0 d L)))) (t : Fin (8 * 128)) : sProp 𝕄 :=
  entry0 d L s0 qd fx M (finProdFinEquiv.symm t).1 (finProdFinEquiv.symm t).2

instance (fx : S8x128.Idx → BitVec 32) (M) (t : Fin (8 * 128)) : Storable (upEmb : UEmb _ 𝕄) (members0 (F := F) d L s0 qd fx M t) := by
  unfold members0; infer_instance

theorem member_at (Φ : Fin 8 → Fin 128 → sProp 𝕄) (j : Fin 8) (k : Fin 128) (h : 128 * j.val + k.val < 8 * 128) :
    Φ j k = Φ (finProdFinEquiv.symm (⟨128 * j.val + k.val, h⟩ : Fin (8 * 128))).1 (finProdFinEquiv.symm (⟨128 * j.val + k.val, h⟩ : Fin (8 * 128))).2 := by
  rw [show (⟨128 * j.val + k.val, h⟩ : Fin (8 * 128)) = finProdFinEquiv (j, k) from Fin.ext (Nat.add_comm _ _), Equiv.symm_apply_apply]

/-- What row `j`'s scatter is issued with. -/
def fuel0 (fx : S8x128.Idx → BitVec 32) (M : Finset (Idx ((sV).view.loc (thr0 d L)))) (j : Fin 8) : sProp 𝕄 :=
  iprop(((oV).view.loc (thr0 d L) ↦[(oV).view.set]{pieceOf fullShare 8 (by decide) j} (fun _ => 1#32))
    ∗ willBeTo wm ((sV).view.loc (thr0 d L)) Finset.univ (pieceOf qd 8 (by decide) j) s0 (ones d) M
    ∗ ((rowM hV j).view.loc (thr0 d L) ↦[(rowM hV j).view.set]{fullShare} (hashes d L fx)))

/-- Before the issue of row `j`'s scatter. -/
def issue0 (fx : S8x128.Idx → BitVec 32) (M : Finset (Idx ((sV).view.loc (thr0 d L)))) (j : ℕ) : sProp 𝕄 :=
  iprop(wmInv wm ιwm ∗ bigSep (pending (n := 8) j) (fuel0 d L s0 qd fx M)
    ∗ Batch countersEmb (thr0 d L) (.dma cc0_scratch3.sem) (none : HIx 2) 32 (members0 d L s0 qd fx M) (128 * j) 0)

theorem ones_admitted (j : Fin (S128.size gathers_S16777216_S128.axis')) (r : Fin (S16777216.size gathers_S16777216_S128.axis)) :
    ((bits).view.slice (S16777216.rowRect gathers_S16777216_S128.axis r)).Admitted (Elt F) (ones d)
      (SparseCore.scatterRowPayload (thr0 d L) oV gathers_S16777216_S128 (fun _ => 1#32) j) Finset.univ :=
  fun x _ u hu => Option.some.inj (show some (1#32) = some u from hu)

theorem wp_issue0 (fx : S8x128.Idx → BitVec 32) (M : Finset (Idx ((sV).view.loc (thr0 d L)))) (j j' : ℕ) (hj : j < 8) (hj' : j' = j + 1)
    {offs : Memref sig .scVector .vmem S128 .i32} (ho : offs = rowM hV ⟨j, hj⟩) {dst : Memref sig .scVector .hbm S16777216 .i32} (hdst : dst = bits)
    {α : Type} {Q : α → sProp 𝕄}
    {hp : (thr0 d L).2.kind = .scVector} {he : EltTy.i32.bits = 32} {hsp : Space.hbm = .hbm ∨ Space.hbm = .shared} {hr : S16777216.StreamRows 0}
    {hn : S128.numel = S128.size gathers_S16777216_S128.axis'}
    {k : PUnit → Prog (TpuEff nD τ sig (Elt F) Λ₀ (thr0 d L).2) α} :
    issue0 d L s0 qd ιwm fx M j
      ⊢ iprop((issue0 d L s0 qd ιwm fx M j' -∗ wp frame (wpE (defs₀ (F := F)) 𝒱₀ (thr0 d L) none) Set.univ (k ⟨⟩) Q)
          -∗ wp frame (wpE (defs₀ (F := F)) 𝒱₀ (thr0 d L) none) Set.univ
            (SparseCore.enqueueIndirectScatter hp oV dst gathers_S16777216_S128 offs hn cc0_scratch3.sem he hsp hr >>= k) Q) := by
  subst ho hdst hj'
  unfold issue0
  iintro ⟨#Hi, Hf, HB⟩ Hk
  ihave Hf' := (Entails.of_eq (bigSep_pending_step (fuel0 d L s0 qd fx M) j hj)) $$ Hf
  unfold fuel0
  icases Hf' with ⟨⟨Ho, Hw, Hh⟩, Hf⟩
  iapply (_root_.Bloom.wp_issueScatter countersEmb 𝒱₀ (thr0 d L) none wm ιwm (D := members0 d L s0 qd fx M) (b := 128 * j) (none : HIx 2) 32
    (by decide) (fun r => rfl) (hin_row d L fx ⟨j, hj⟩) (show 128 * j + 128 ≤ 8 * 128 by omega)
    (ones_admitted d L)
    (fun k => Entails.of_eq (member_at (entry0 d L s0 qd fx M) ⟨j, hj⟩ k _))) $$ [Ho Hw Hh HB]
  · isplitr; · iexact Hi
    isplitl [Ho]; · iexact Ho
    isplitl [Hw]; · iexact Hw
    isplitl [Hh]; · iexact Hh
    iexact HB
  iintro HB
  iapply Hk
  isplitr; · iexact Hi
  isplitl [Hf]; · iexact Hf
  iexact HB

/-- Between the waits: `u` rows' credit drawn. -/
def drain0 (fx : S8x128.Idx → BitVec 32) (M : Finset (Idx ((sV).view.loc (thr0 d L)))) (O : CellTallies nD τ sig (HIx 2)) (W : Waits sig (HIx 2)) (u : ℕ) : sProp 𝕄 :=
  iprop(MayWaits (thr0 d L) (none : HIx 2) O
    ∗ Batch countersEmb (thr0 d L) (.dma cc0_scratch3.sem) (none : HIx 2) 32 (members0 d L s0 qd fx M) (8 * 128) (128 * 32 * u)
    ∗ ∃ W', ⌜∀ p ∈ W', p ∈ W ∨ p.2 = none⌝ ∗ owes (thr0 d L) O W')

theorem wp_drain0 (fx : S8x128.Idx → BitVec 32) (M : Finset (Idx ((sV).view.loc (thr0 d L)))) (O : CellTallies nD τ sig (HIx 2)) (W : Waits sig (HIx 2))
    (u u' : ℕ) (hu : u < 8) (hu' : u' = u + 1) {dst : Memref sig .scVector .hbm S16777216 .i32}
    {α : Type} {Q : α → sProp 𝕄} {hsrc : (oV).view.WordExact} {hdst : dst.view.WordExact}
    {k : PUnit → Prog (TpuEff nD τ sig (Elt F) Λ₀ (thr0 d L).2) α} :
    drain0 d L s0 qd fx M O W u
      ⊢ iprop((drain0 d L s0 qd fx M O W u' -∗ wp frame (wpE (defs₀ (F := F)) 𝒱₀ (thr0 d L) none) Set.univ (k ⟨⟩) Q)
          -∗ wp frame (wpE (defs₀ (F := F)) 𝒱₀ (thr0 d L) none) Set.univ
            (SparseCore.waitIndirectScatter (p := (thr0 d L).2) cc0_scratch3.sem oV dst hsrc hdst >>= k) Q) := by
  subst hu'
  unfold drain0
  rw [SparseCore.waitIndirectScatter_bind (c := thr0 d L)]
  iintro ⟨Hmw, HB, %W', %hW', HO⟩ Hk
  ihave #Hm := Transfers.MayWaits.elim (SemLoc.dma cc0_scratch3.sem) $$ Hmw
  iapply (Transfers.wp_waitBatchMulO countersEmb 𝒱₀ (thr0 d L) none (none : HIx 2) (N := 32) 128 (show (oV).view.dmaCredit = 128 * 32 by decide)
    (show 128 * 32 * u + 128 * 32 ≤ 32 * (8 * 128) by omega)) $$ [HB HO]
  · isplitl [HB]; · iexact HB
    isplitl [HO]; · iexact HO
    iexact Hm
  iintro ⟨HB, HO⟩
  iapply Hk
  isplitl [Hmw]; · iexact Hmw
  isplitl [HB]; · iexact HB
  iexists (insert (SemLoc.dma cc0_scratch3.sem, (none : HIx 2)) W'); isplitr
  · ipureintro; intro p hp
    rcases Finset.mem_insert.mp hp with hp | hp
    · exact .inr (show p.2 = none by rw [hp])
    · exact hW' p hp
  · iexact HO

/-! ## The bits a chunk names -/

theorem mem_bit {r : Fin (S16777216.size gathers_S16777216_S128.axis)} {x : Idx ((sV).view.loc (thr0 d L))} :
    x ∈ ((bits).view.slice (S16777216.rowRect gathers_S16777216_S128.axis r)).set ↔ (x 0).val = r.val := by
  rw [View.set_slice, Finset.mem_map]
  constructor
  · rintro ⟨y, hy, rfl⟩
    have h := (Rect.mem_set_unit (s := S16777216)).mp hy 0
    have h1 : r.val ≤ (y 0).val ∧ (y 0).val < r.val + 1 := h
    show 0 + 1 * (y 0).val = r.val
    omega
  · intro h
    refine ⟨x, (Rect.mem_set_unit (s := S16777216)).mpr fun a => ?_, funext fun a => ?_⟩
    · have ha : a = (0 : Fin 1) := Subsingleton.elim (α := Fin 1) _ _
      subst ha
      show r.val ≤ (x 0).val ∧ (x 0).val < r.val + 1
      omega
    · have ha : a = (0 : Fin 1) := Subsingleton.elim (α := Fin 1) _ _
      subst ha
      exact Fin.ext (show 0 + 1 * (x 0).val = (x 0).val by omega)

theorem chunk_apply (k : Fin k0_t1_loop.trips) (y : S8x128.Idx) :
    ∃ z : S8192x128.Idx, (z 0).val = row0 L + 8 * k.val + (y 0).val ∧ (z 1).val = (y 1).val ∧ chunk d L va k y = va z := by
  refine ⟨(Rect.unit (s := S8192x128) (k0_off1 L k) S8x128.size (k0_off1_inb L k)).emb y, ?_, ?_, rfl⟩
  · show k0_off1 L k 0 + 1 * (y 0).val = _
    rw [k0_off1_eq]
    show 512 * (L 1).val + 256 * (L 0).val + 8 * k.val + 1 * (y 0).val = _
    unfold row0; omega
  · show k0_off1 L k 1 + 1 * (y 1).val = _
    rw [k0_off1_eq]
    show 0 + 1 * (y 1).val = _
    omega

/-- A word's place in its row. -/
def colIx (y : S8192x128.Idx) : S128.Idx := fun a => match a with | 0 => y 1

theorem marks_step (k : Fin k0_t1_loop.trips) :
    (Finset.univ.biUnion fun j : Fin 8 => Finset.univ.biUnion fun e : Fin (S128.size gathers_S16777216_S128.axis') =>
        marks d L va (row0 L) (8 * k.val) ∪ ((bits).view.slice (S16777216.rowRect gathers_S16777216_S128.axis
          (SparseCore.rows ((rowM hV j).view.read (Elt F) (hashes d L (chunk d L va k))) rfl (hin_row d L (chunk d L va k) j) e))).set)
      = marks d L va (row0 L) (8 * (k.val + 1)) := by
  have hval : ∀ (j : Fin 8) (e : Fin (S128.size gathers_S16777216_S128.axis')),
      (SparseCore.rows ((rowM hV j).view.read (Elt F) (hashes d L (chunk d L va k))) (rfl : S128.numel = _) (hin_row d L (chunk d L va k) j) e).val
        = (hash (chunk d L va k (rowIx j (_root_.Bloom.entryOf S128 (rfl : S128.numel = S128.size gathers_S16777216_S128.axis') e)))).toNat := fun j e =>
    have h := rowM_read (F := F) hV j (hashes d L (chunk d L va k)) (_root_.Bloom.entryOf S128 (rfl : S128.numel = S128.size gathers_S16777216_S128.axis') e)
    have h3 : (View.read (Elt F) (rowM hV j).view (hashes d L (chunk d L va k)) (_root_.Bloom.entryOf S128 (rfl : S128.numel = S128.size gathers_S16777216_S128.axis') e) : BitVec 32).toNat
        = (hash (chunk d L va k (rowIx j (_root_.Bloom.entryOf S128 (rfl : S128.numel = S128.size gathers_S16777216_S128.axis') e)))).toNat := by rw [h]; rfl
    h3
  ext x
  rw [Finset.mem_biUnion]
  simp only [Finset.mem_biUnion, Finset.mem_union, Finset.mem_univ, _root_.true_and]
  rw [mem_marks, mem_marks]
  constructor
  · rintro ⟨j, e, ⟨y, h1, h2, rfl⟩ | hx⟩
    · exact ⟨y, h1, by omega, rfl⟩
    · have hx := ((mem_bit d L).mp hx).trans (hval j e)
      obtain ⟨z, hz, -, he⟩ := chunk_apply d L va k (rowIx j (_root_.Bloom.entryOf S128 (rfl : S128.numel = S128.size gathers_S16777216_S128.axis') e))
      have hj : (z 0).val = row0 L + 8 * k.val + j.val := hz
      refine ⟨z, by omega, by omega, funext fun a => ?_⟩
      have ha : a = (0 : Fin 1) := Subsingleton.elim (α := Fin 1) _ _
      subst ha
      exact Fin.ext (hx.trans (by rw [he]; rfl))
  · rintro ⟨y, h1, h2, rfl⟩
    by_cases h3 : (y 0).val < row0 L + 8 * k.val
    · exact ⟨0, ⟨0, by decide⟩, .inl ⟨y, h1, h3, rfl⟩⟩
    · have hj : (y 0).val - (row0 L + 8 * k.val) < 8 := by omega
      obtain ⟨e, he⟩ := (_root_.Bloom.entryOf_bijective (rfl : S128.numel = S128.size gathers_S16777216_S128.axis')).surjective
        (colIx y)
      refine ⟨⟨_, hj⟩, e, .inr ((mem_bit d L).mpr (Eq.trans ?_ (hval ⟨_, hj⟩ e).symm))⟩
      rw [he]
      obtain ⟨z, hz, hz1, hc⟩ := chunk_apply d L va k (rowIx ⟨_, hj⟩ (colIx y))
      rw [hc]
      have hzy : z = y := funext fun a => by
        match a with
        | 0 => exact Fin.ext (hz.trans (show row0 L + 8 * k.val + ((y 0).val - (row0 L + 8 * k.val)) = (y 0).val by omega))
        | 1 => exact Fin.ext hz1
      rw [hzy]; rfl

/-! ## Into the batch and out of it -/

theorem rows_eq (f : Buf (Elt F) ((hV).view.loc (thr0 d L))) :
    ((hV).view.loc (thr0 d L) ↦{fullShare} f : sProp 𝕄)
      = bigSep Finset.univ fun j : Fin 8 => ((rowM hV j).view.loc (thr0 d L) ↦[(rowM hV j).view.set]{fullShare} f) := by
  have h1 : (Finset.univ : Finset (Idx ((hV).view.loc (thr0 d L)))) = (hV).view.set := (View.set_whole (cc0_scratch1 : Ref sig .scVector)).symm
  rw [h1]
  refine (pointsTo_rows (thr0 d L) (hV).view 0 fullShare f).trans (BI.bigSep_congr fun j _ => ?_)
  exact congrArg (fun I => ((hV).view.loc (thr0 d L) ↦[I]{fullShare} f : sProp 𝕄)) (rowM_set hV j).symm

theorem ones_eq :
    ((oV).view.loc (thr0 d L) ↦{fullShare} (fun _ => 1#32) : sProp 𝕄)
      = bigSep Finset.univ fun j : Fin 8 => ((oV).view.loc (thr0 d L) ↦[(oV).view.set]{pieceOf fullShare 8 (by decide) j} (fun _ => 1#32)) := by
  have h1 : (oV).view.set = (Finset.univ : Finset (Idx ((oV).view.loc (thr0 d L)))) := View.set_whole (cc0_scratch2 : Ref sig .scVector)
  rw [h1]
  exact pointsTo_piecesOf _ _ _ _

theorem enter0 (fx : S8x128.Idx → BitVec 32) (M : Finset (Idx ((sV).view.loc (thr0 d L)))) :
    iprop(wmInv wm ιwm ∗ ((hV).view.loc (thr0 d L) ↦{fullShare} (hashes d L fx)) ∗ ((oV).view.loc (thr0 d L) ↦{fullShare} (fun _ => 1#32))
      ∗ willBeTo wm ((sV).view.loc (thr0 d L)) Finset.univ qd s0 (ones d) M ∗ semVal (thr0 d L, SemLoc.dma cc0_scratch3.sem) 0)
      ⊢ (|={Set.univ}=> issue0 d L s0 qd ιwm fx M 0 : sProp 𝕄) := by
  rw [rows_eq, ones_eq]
  iintro ⟨#Hi, Hh, Ho, Hw, Hs⟩
  imod (Transfers.batch_alloc' countersEmb (thr0 d L) (none : HIx 2) 32 (members0 d L s0 qd fx M)) $$ Hs with HB
  ihave Hw := (_root_.Bloom.willBeTo_piecesOf M (o := 8) (by decide) qd) $$ Hw
  ihave Hf := Transfers.bigSep_sep_in _ _ _ $$ [Hw Hh]; · isplitl [Hw] <;> iassumption
  ihave Hf := Transfers.bigSep_sep_in _ _ _ $$ [Ho Hf]; · isplitl [Ho] <;> iassumption
  imodintro
  unfold issue0
  rw [← bigSep_pending_zero]
  isplitr; · iexact Hi
  isplitl [Hf]; · iexact Hf
  iexact HB

theorem issued0 (fx : S8x128.Idx → BitVec 32) (M : Finset (Idx ((sV).view.loc (thr0 d L)))) (O : CellTallies nD τ sig (HIx 2)) (W W' : Waits sig (HIx 2))
    (hW' : ∀ p ∈ W', p ∈ W ∨ p.2 = none) :
    iprop(MayWaits (thr0 d L) (none : HIx 2) O ∗ issue0 d L s0 qd ιwm fx M 8 ∗ owes (thr0 d L) O W') ⊢ drain0 d L s0 qd fx M O W 0 := by
  unfold issue0 drain0
  iintro ⟨Hm, ⟨-, -, HB⟩, HO⟩
  isplitl [Hm]; · iexact Hm
  isplitl [HB]; · iexact HB
  iexists W'; isplitr
  · ipureintro; exact hW'
  · iexact HO

theorem leave0 (k : Fin k0_t1_loop.trips) (O : CellTallies nD τ sig (HIx 2)) (W : Waits sig (HIx 2)) :
    drain0 d L s0 qd (chunk d L va k) (marks d L va (row0 L) (8 * k.val)) O W 8
      ⊢ (|={Set.univ}=> iprop(MayWaits (thr0 d L) (none : HIx 2) O
        ∗ ((hV).view.loc (thr0 d L) ↦{fullShare} (hashes d L (chunk d L va k))) ∗ ((oV).view.loc (thr0 d L) ↦{fullShare} (fun _ => 1#32))
        ∗ willBeTo wm ((sV).view.loc (thr0 d L)) Finset.univ qd s0 (ones d) (marks d L va (row0 L) (8 * (k.val + 1)))
        ∗ semVal (thr0 d L, SemLoc.dma cc0_scratch3.sem) 0
        ∗ ∃ W', ⌜∀ p ∈ W', p ∈ W ∨ p.2 = none⌝ ∗ owes (thr0 d L) O W') : sProp 𝕄) := by
  unfold drain0
  rw [rows_eq, ones_eq]
  iintro ⟨Hm, HB, HO⟩
  imod (Transfers.batch_collect' countersEmb (thr0 d L) (N := 32) (by decide)) $$ HB with ⟨HD, Hs⟩
  have hj : bigSep Finset.univ (members0 d L s0 qd (chunk d L va k) (marks d L va (row0 L) (8 * k.val)) : _ → sProp 𝕄)
      ⊢ bigSep Finset.univ fun j : Fin 8 => iprop(willBeTo wm ((sV).view.loc (thr0 d L)) Finset.univ (pieceOf qd 8 (by decide) j) s0 (ones d)
            (Finset.univ.biUnion fun e : Fin (S128.size gathers_S16777216_S128.axis') =>
              marks d L va (row0 L) (8 * k.val) ∪ ((bits).view.slice (S16777216.rowRect gathers_S16777216_S128.axis
                (SparseCore.rows ((rowM hV j).view.read (Elt F) (hashes d L (chunk d L va k))) rfl (hin_row d L (chunk d L va k) j) e))).set)
          ∗ ((oV).view.loc (thr0 d L) ↦[(oV).view.set]{pieceOf fullShare 8 (by decide) j} (fun _ => 1#32))
          ∗ ((rowM hV j).view.loc (thr0 d L) ↦[(rowM hV j).view.set]{fullShare} (hashes d L (chunk d L va k)))) := by
    refine (Entails.of_eq (_root_.Bloom.bigSep_runs (entry0 d L s0 qd (chunk d L va k) (marks d L va (row0 L) (8 * k.val))))).trans (BI.bigSep_mono fun j _ => ?_)
    exact _root_.Bloom.scatterEntry_join (thr0 d L) wm oV bits gathers_S16777216_S128 (rowM hV j) rfl (by decide)
      (pieceOf fullShare 8 (by decide) j) fullShare (pieceOf qd 8 (by decide) j) (fun _ => 1#32) s0 (ones d) _ (hashes d L (chunk d L va k)) (hin_row d L (chunk d L va k) j)
  ihave HD := hj $$ HD
  ihave HD := Transfers.bigSep_sep_out _ _ _ $$ HD
  icases HD with ⟨Hw, HD⟩
  ihave HD := Transfers.bigSep_sep_out _ _ _ $$ HD
  icases HD with ⟨Ho, Hh⟩
  ihave Hw := (_root_.Bloom.willBeTo_joinOf (o := 8) (Nat.succ_pos 7) qd _) $$ Hw
  rw [marks_step]
  imodintro
  isplitl [Hm]; · iexact Hm
  isplitl [Hh]; · iexact Hh
  isplitl [Ho]; · iexact Ho
  isplitl [Hw]; · iexact Hw
  isplitl [Hs]; · iexact Hs
  iexact HO

end Cert.KernelIdeal.Bloom
-- ==== Proof.KernelIdeal.ScatterTrip.lean ====
/-
  One trip of the scatter's loop.
-/
module

public import proofs.«01_k».proof.Proof.KernelIdeal.Scatter

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ (UU F) ℕ

local notation "aV" => (Memref.whole Cert.KernelIdeal.main_v4_scv : Memref Cert.KernelIdeal.sig Kind.scVector Space.hbm Cert.KernelIdeal.S8192x128 EltTy.i32)
local notation "sV" => (Memref.whole Cert.KernelIdeal.main_v7_scv : Memref Cert.KernelIdeal.sig Kind.scVector Space.hbm Cert.KernelIdeal.S16777216 EltTy.i32)
local notation "xV" => (Memref.whole Cert.KernelIdeal.cc0_scratch0 : Memref Cert.KernelIdeal.sig Kind.scVector Space.vmem Cert.KernelIdeal.S8x128 EltTy.i32)
local notation "hV" => (Memref.whole Cert.KernelIdeal.cc0_scratch1 : Memref Cert.KernelIdeal.sig Kind.scVector Space.vmem Cert.KernelIdeal.S8x128 EltTy.i32)
local notation "oV" => (Memref.whole Cert.KernelIdeal.cc0_scratch2 : Memref Cert.KernelIdeal.sig Kind.scVector Space.vmem Cert.KernelIdeal.S128 EltTy.i32)

variable (d : Dev nD) (L : grid0.Coords)

variable (va : Buf (Elt F) ((aV).view.loc (thr0 d L))) (s0 : Buf (Elt F) ((sV).view.loc (thr0 d L))) (q qd : PosShare TreeShare) (ιwm : ℕ)

set_option maxHeartbeats 4000000 in
theorem trip0 (O : CellTallies nD τ sig (HIx 2)) (W : Waits sig (HIx 2)) (k : Fin k0_t1_loop.trips) (v2 : BitVec 32) :
    inv0 d L va s0 q qd ιwm O W k.val ⟨⟩
      ⊢ wp frame (wpE (defs₀ (F := F)) 𝒱₀ (thr0 d L) none) Set.univ
          (k0_t1_body L aV (Memref.isWhole_whole _) sV (Memref.isWhole_whole _) sV (Memref.isWhole_whole _)
            xV (Memref.isWhole_whole _) hV (Memref.isWhole_whole _) oV (Memref.isWhole_whole _) cc0_scratch3 cc0_scoped0 v2 k ⟨⟩)
          fun r => inv0 d L va s0 q qd ιwm O W (k.val + 1) r := by
  unfold k0_t1_body inv0
  iintro ⟨#Hi, Hmw, Ha, ⟨%fx, Hx⟩, ⟨%fh, Hh⟩, Ho, Hw, HsA, HsB, %W', %hW', HO⟩
  sl_exec (disch := exact View.amount_pos _ _ (show 0 < S8x128.numel by decide))
  ihave Hh' := (hV_hash d L fh (View.write (Elt F) (xV).view fx (chunk d L va k) Finset.univ) (chunk d L va k) (View.write_whole_univ _ _ _) _ ?hp ?hc) $$ Hh
  case hp =>
    simp only [List.forall_mem_cons]
    repeat' apply And.intro
    all_goals first | exact fun x => hashVec_apply _ x | exact fun p hp => absurd hp List.not_mem_nil
  case hc => rfl
  imod (enter0 d L s0 qd ιwm (chunk d L va k) (marks d L va (row0 L) (8 * k.val))) $$ [Hh' Ho Hw HsB] with HI
  · isplitr; · iexact Hi
    isplitl [Hh']; · iexact Hh'
    isplitl [Ho]; · iexact Ho
    isplitl [Hw]; · iexact Hw
    iexact HsB
  iapply (wp_issue0 d L s0 qd ιwm (chunk d L va k) (marks d L va (row0 L) (8 * k.val)) 0 1 (by decide) rfl rfl rfl) $$ HI
  iintro HI
  iapply (wp_issue0 d L s0 qd ιwm (chunk d L va k) (marks d L va (row0 L) (8 * k.val)) 1 2 (by decide) rfl rfl rfl) $$ HI
  iintro HI
  iapply (wp_issue0 d L s0 qd ιwm (chunk d L va k) (marks d L va (row0 L) (8 * k.val)) 2 3 (by decide) rfl rfl rfl) $$ HI
  iintro HI
  iapply (wp_issue0 d L s0 qd ιwm (chunk d L va k) (marks d L va (row0 L) (8 * k.val)) 3 4 (by decide) rfl rfl rfl) $$ HI
  iintro HI
  sl_exec
  iapply (wp_issue0 d L s0 qd ιwm (chunk d L va k) (marks d L va (row0 L) (8 * k.val)) 4 5 (by decide) rfl rfl rfl) $$ HI
  iintro HI
  iapply (wp_issue0 d L s0 qd ιwm (chunk d L va k) (marks d L va (row0 L) (8 * k.val)) 5 6 (by decide) rfl rfl rfl) $$ HI
  iintro HI
  iapply (wp_issue0 d L s0 qd ιwm (chunk d L va k) (marks d L va (row0 L) (8 * k.val)) 6 7 (by decide) rfl rfl rfl) $$ HI
  iintro HI
  iapply (wp_issue0 d L s0 qd ιwm (chunk d L va k) (marks d L va (row0 L) (8 * k.val)) 7 8 (by decide) rfl rfl rfl) $$ HI
  iintro HI
  ihave HI := (issued0 d L s0 qd ιwm (chunk d L va k) (marks d L va (row0 L) (8 * k.val)) O W (insert (SemLoc.dma cc0_scoped0.sem, (none : HIx 2)) W') ?hw) $$ [Hmw HI HO]
  case hw =>
    intro p hp
    rcases Finset.mem_insert.mp hp with hp | hp
    · exact .inr (by rw [hp])
    · exact hW' p hp
  · isplitl [Hmw]; · iexact Hmw
    isplitl [HI]; · iexact HI
    iexact HO
  iapply (wp_drain0 d L s0 qd (chunk d L va k) (marks d L va (row0 L) (8 * k.val)) O W 0 1 (by decide) rfl) $$ HI
  iintro HI
  iapply (wp_drain0 d L s0 qd (chunk d L va k) (marks d L va (row0 L) (8 * k.val)) O W 1 2 (by decide) rfl) $$ HI
  iintro HI
  iapply (wp_drain0 d L s0 qd (chunk d L va k) (marks d L va (row0 L) (8 * k.val)) O W 2 3 (by decide) rfl) $$ HI
  iintro HI
  iapply (wp_drain0 d L s0 qd (chunk d L va k) (marks d L va (row0 L) (8 * k.val)) O W 3 4 (by decide) rfl) $$ HI
  iintro HI
  sl_exec
  iapply (wp_drain0 d L s0 qd (chunk d L va k) (marks d L va (row0 L) (8 * k.val)) O W 4 5 (by decide) rfl) $$ HI
  iintro HI
  rw [wp_ret]
  imodintro
  iapply (wp_drain0 d L s0 qd (chunk d L va k) (marks d L va (row0 L) (8 * k.val)) O W 5 6 (by decide) rfl) $$ HI
  iintro HI
  iapply (wp_drain0 d L s0 qd (chunk d L va k) (marks d L va (row0 L) (8 * k.val)) O W 6 7 (by decide) rfl) $$ HI
  iintro HI
  iapply (wp_drain0 d L s0 qd (chunk d L va k) (marks d L va (row0 L) (8 * k.val)) O W 7 8 (by decide) rfl) $$ HI
  iintro HI
  imod (leave0 d L va s0 qd k O W) $$ HI with ⟨Hmw, Hh, Ho, Hw, HsB, HO⟩
  sl_step
  isplitr; · iexact Hi
  isplitl [Hmw]; · iexact Hmw
  isplitl [Ha]; · iexact Ha
  isplitl [Hx]; · iexists _; iexact Hx
  isplitl [Hh]; · iexists _; iexact Hh
  isplitl [Ho]; · iexact Ho
  isplitl [Hw]; · iexact Hw
  isplitl [HsA]; · iexact HsA
  isplitl [HsB]; · iexact HsB
  iexact HO

end Cert.KernelIdeal.Bloom
-- ==== Proof.KernelIdeal.ScatterBody.lean ====
/-
  The scatter's whole task on one vector subcore: the ones' row, then the loop.
-/
module

public import proofs.«01_k».proof.Proof.KernelIdeal.ScatterTrip

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ (UU F) ℕ

local notation "aV" => (Memref.whole Cert.KernelIdeal.main_v4_scv : Memref Cert.KernelIdeal.sig Kind.scVector Space.hbm Cert.KernelIdeal.S8192x128 EltTy.i32)
local notation "sV" => (Memref.whole Cert.KernelIdeal.main_v7_scv : Memref Cert.KernelIdeal.sig Kind.scVector Space.hbm Cert.KernelIdeal.S16777216 EltTy.i32)
local notation "xV" => (Memref.whole Cert.KernelIdeal.cc0_scratch0 : Memref Cert.KernelIdeal.sig Kind.scVector Space.vmem Cert.KernelIdeal.S8x128 EltTy.i32)
local notation "hV" => (Memref.whole Cert.KernelIdeal.cc0_scratch1 : Memref Cert.KernelIdeal.sig Kind.scVector Space.vmem Cert.KernelIdeal.S8x128 EltTy.i32)
local notation "oV" => (Memref.whole Cert.KernelIdeal.cc0_scratch2 : Memref Cert.KernelIdeal.sig Kind.scVector Space.vmem Cert.KernelIdeal.S128 EltTy.i32)

variable (d : Dev nD) (L : grid0.Coords)

variable (va : Buf (Elt F) ((aV).view.loc (thr0 d L))) (s0 : Buf (Elt F) ((sV).view.loc (thr0 d L))) (q qd : PosShare TreeShare) (ιwm : ℕ)

abbrev cA0 (d : Dev nD) (L : grid0.Coords) : GSem nD τ sig := (thr0 d L, .dma cc0_scoped0.sem)
abbrev cB0 (d : Dev nD) (L : grid0.Coords) : GSem nD τ sig := (thr0 d L, .dma cc0_scratch3.sem)

theorem ownSems0_V0 :
    (ownSems0 (thr0 d L) : sProp 𝕄)
      = iprop(semVal (cA0 d L) 0 ∗ semVal (cB0 d L) 0
          ∗ bigSep (((ownCells (thr0 d L)).erase (cA0 d L)).erase (cB0 d L)) fun g => semVal g 0) := by
  unfold SparseCore.Cfg.ownSems0
  rw [SparseCore.bigSep_erase' ((mem_ownCells (g := cA0 d L)).mpr ⟨rfl, by
      show (SemLoc.dma cc0_scoped0.sem : SemLoc sig).isScoped .scVector = true; decide⟩),
    SparseCore.bigSep_erase' (Finset.mem_erase.mpr ⟨by simp [cA0, cB0]; decide, (mem_ownCells (g := cB0 d L)).mpr ⟨rfl, by
      show (SemLoc.dma cc0_scratch3.sem : SemLoc sig).isScoped .scVector = true; decide⟩⟩)]

/-- The three scratch buffers are among the subcore's own: they are them, at some contents, and the rest. -/
theorem ownBufs_V0 :
    (ownBufs (thr0 d L) : sProp 𝕄)
      = iprop((∃ f, (thr0 d L).loc cc0_scratch0 ↦{fullShare} f) ∗ (∃ f, (thr0 d L).loc cc0_scratch1 ↦{fullShare} f)
          ∗ (∃ f, (thr0 d L).loc cc0_scratch2 ↦{fullShare} f)
          ∗ bigSep ((((ownRefs (τ := τ) (thr0 d L).2).erase ((thr0 d L).2.devRef cc0_scratch0)).erase
              ((thr0 d L).2.devRef cc0_scratch1)).erase ((thr0 d L).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr0 d L).2)
    (b := (thr0 d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := (thr0 d L).2) (b := (thr0 d L).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (thr0 d L).2) (b := (thr0 d L).2.devRef cc0_scratch2) rfl⟩⟩)]

/-- Stored vectors of ones that cover the row leave it ones. -/
theorem oV_ones (f : Buf (Elt F) ((oV).view.loc (thr0 d L)))
    (Lst : List (View.Piece (Elt F) S128 .i32)) (hp : ∀ p ∈ Lst, ∀ x : p.1.shape.Idx, p.2 x = 1#32)
    (hc : View.Piece.tiled Lst ![16] = true) :
    ((oV).view.loc (thr0 d L) ↦{fullShare} (oV).view.writes (Elt F) f Lst : sProp 𝕄)
      ⊢ ((oV).view.loc (thr0 d L) ↦{fullShare} (fun _ => 1#32)) :=
  Entails.of_eq (congrArg (fun f => ((oV).view.loc (thr0 d L) ↦{fullShare} f : sProp 𝕄))
    (funext fun y => View.read_writes_apply_of_pieces (v := (oV).view) (f := f) (fun _ => 1#32) Lst hp y (View.cover_of_tiled Lst ![16] hc y)))

/-- What a task gets: its share of the padded values, its write-mode share of the bitset with nothing marked. -/
abbrev in0 : sProp 𝕄 :=
  iprop(((aV).view.loc (thr0 d L) ↦{q} va) ∗ willBeTo wm ((sV).view.loc (thr0 d L)) Finset.univ qd s0 (ones d) ∅)
/-- What it brings back: the same, its 256 rows' bits marked. -/
abbrev out0 : sProp 𝕄 :=
  iprop(((aV).view.loc (thr0 d L) ↦{q} va) ∗ willBeTo wm ((sV).view.loc (thr0 d L)) Finset.univ qd s0 (ones d) (marks d L va (row0 L) 256))

set_option maxHeartbeats 4000000 in
theorem body0 (hF : (K (F := F)).Facts) (O : CellTallies nD τ sig (HIx 2)) (W : Waits sig (HIx 2)) (hO : ∀ g, O g none = 0) :
    iprop(levAts (K (F := F)).L (K (F := F)).lev ∗ (∃ ι, wmInv wm ι) ∗ in0 d L va s0 q qd
        ∗ scopedBufs (thr0 d L) ∗ scopedSems0 (thr0 d L) ∗ owes (thr0 d L) O W)
      ⊢ wp frame (wpE (defs₀ (F := F)) 𝒱₀ (thr0 d L) none) Set.univ
          (cc0__scatter_body L aV (Memref.isWhole_whole _) sV (Memref.isWhole_whole _) sV (Memref.isWhole_whole _)
            xV (Memref.isWhole_whole _) hV (Memref.isWhole_whole _) oV (Memref.isWhole_whole _) cc0_scratch3 cc0_scoped0)
          fun _ => iprop(out0 d L va s0 q qd
            ∗ scopedBufs (thr0 d L) ∗ scopedSems0 (thr0 d L)
            ∗ ∃ W', ⌜∀ p ∈ W', p ∈ W ∨ p.2 = none⌝ ∗ owes (thr0 d L) O W') := by
  simp only [cc0__scatter_body_eq_skeleton]; unfold cc0__scatter_body_skel
  rw [(K (F := F)).scopedBufs_V hF d _ _, SparseCore.Cfg.scopedSems0_V (Val := Elt F) d _ _, ownSems0_V0, ownBufs_V0]
  iintro ⟨#Hlv, ⟨%ιwm, #Hi⟩, ⟨Ha, Hw⟩, ⟨Hx, Hh, ⟨%fo, Ho⟩, Hbufs⟩, ⟨HsA, HsB, Hsems⟩, HO⟩
  ihave Hmw := (show levAts (K (F := F)).L (K (F := F)).lev ⊢ Transfers.MayWaits (thr0 d L) (default : HIx 2) O from
    (K (F := F)).mayWaits_none (thr := thr0 d L) hO) $$ Hlv
  ihave Ho := (show ((thr0 d L).loc cc0_scratch2 ↦{fullShare} fo : sProp 𝕄) ⊢ ((oV).view.loc (thr0 d L) ↦{fullShare} fo) from Entails.rfl) $$ Ho
  sl_exec
  ihave Ho := (oV_ones d L _ _ ?hp ?hc) $$ Ho
  case hp =>
    unfold body0.sl.Ho_8
    simp only [List.forall_mem_cons]
    repeat' apply And.intro
    all_goals first | exact fun x => rfl | exact fun p hp => absurd hp List.not_mem_nil
  case hc => rfl
  sl_for (inv0 d L va s0 q qd ιwm O W) $$ [Hmw Ha Hx Hh Ho Hw HsA HsB HO]
  case region =>
    intro k _
    exact trip0 d L va s0 q qd ιwm O W k _
  · unfold inv0
    isplitr; · iexact Hi
    isplitl [Hmw]; · iexact Hmw
    isplitl [Ha]; · iexact Ha
    isplitl [Hx]; · iexact Hx
    isplitl [Hh]; · iexact Hh
    isplitl [Ho]; · iexact Ho
    isplitl [Hw]
    · rw [show marks d L va (row0 L) (8 * 0) = ∅ from Finset.filter_eq_empty_iff.mpr fun x _ ⟨y, h1, h2, _⟩ => by omega]
      iexact Hw
    isplitl [HsA]; · iexact HsA
    isplitl [HsB]; · iexact HsB
    iexists W; isplitr
    · ipureintro; exact fun p hp => .inl hp
    · iexact HO
  iintro %_ HI
  unfold inv0
  icases HI with ⟨-, -, Ha, Hx, Hh, Ho, Hw, HsA, HsB, HO⟩
  sl_exec
  sl_step
  isplitl [Ha Hw]
  · isplitl [Ha]; · iexact Ha
    iexact Hw
  isplitl [Hx Hh Ho Hbufs]
  · isplitl [Hx]; · iexact Hx
    isplitl [Hh]; · iexact Hh
    isplitl [Ho]; · iexists _; iexact Ho
    iexact Hbufs
  isplitl [HsA HsB Hsems]
  · isplitl [HsA]; · iexact HsA
    isplitl [HsB]; · iexact HsB
    iexact Hsems
  iexact HO

end Cert.KernelIdeal.Bloom
-- ==== Proof.KernelIdeal.Gather.lean ====
/-
  The gather's task on one vector subcore.
-/
module

public import proofs.«01_k».proof.Proof.KernelIdeal.Common

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ (UU F) ℕ

local notation "qV" => (Memref.whole Cert.KernelIdeal.main_v5_scv : Memref Cert.KernelIdeal.sig Kind.scVector Space.hbm Cert.KernelIdeal.S32768x128 EltTy.i32)
local notation "wV" => (Memref.whole Cert.KernelIdeal.main_v16_scv : Memref Cert.KernelIdeal.sig Kind.scVector Space.hbm Cert.KernelIdeal.S16777216 EltTy.i32)
local notation "rV" => (Memref.whole Cert.KernelIdeal.main_v17_scv : Memref Cert.KernelIdeal.sig Kind.scVector Space.hbm Cert.KernelIdeal.S32768x128 EltTy.i32)
local notation "yV" => (Memref.whole Cert.KernelIdeal.cc2_scratch0 : Memref Cert.KernelIdeal.sig Kind.scVector Space.vmem Cert.KernelIdeal.S8x128 EltTy.i32)
local notation "gV" => (Memref.whole Cert.KernelIdeal.cc2_scratch1 : Memref Cert.KernelIdeal.sig Kind.scVector Space.vmem Cert.KernelIdeal.S8x128 EltTy.i32)
local notation "zV" => (Memref.whole Cert.KernelIdeal.cc2_scratch2 : Memref Cert.KernelIdeal.sig Kind.scVector Space.vmem Cert.KernelIdeal.S8x128 EltTy.i32)

variable (d : Dev nD) (L : grid2.Coords)

abbrev thr2 : Thread nD τ := V d ((L 0).castLE hcore2) ((L 1).castLE hsub2)

variable (vq : Buf (Elt F) ((qV).view.loc (thr2 d L))) (vw : Buf (Elt F) ((wV).view.loc (thr2 d L)))
  (f0 : Buf (Elt F) ((rV).view.loc (thr2 d L))) (qq qw : PosShare TreeShare)

/-- The word gathered for each query. -/
def found : Buf (Elt F) ((rV).view.loc (thr2 d L)) := fun x => vw (pos (vq x))

/-- The results' rows from `lo`, `n` of them. -/
def rowsAt (lo n : ℕ) : Finset (Idx ((rV).view.loc (thr2 d L))) :=
  Finset.univ.filter fun x : S32768x128.Idx => lo ≤ (x 0).val ∧ (x 0).val < lo + n

theorem mem_rowsAt {lo n : ℕ} {x : S32768x128.Idx} : x ∈ rowsAt d L lo n ↔ lo ≤ (x 0).val ∧ (x 0).val < lo + n := by
  unfold rowsAt; rw [Finset.mem_filter]; exact ⟨fun h => h.2, fun h => ⟨Finset.mem_univ _, h⟩⟩

theorem rowsAt_add (lo a b : ℕ) : rowsAt d L lo (a + b) = rowsAt d L lo a ∪ rowsAt d L (lo + a) b := by
  ext x
  rw [Finset.mem_union, mem_rowsAt, mem_rowsAt, mem_rowsAt]
  omega

theorem rowsAt_disjoint (lo a b : ℕ) : Disjoint (rowsAt d L lo a) (rowsAt d L (lo + a) b) :=
  Finset.disjoint_left.mpr fun x h h' => by rw [mem_rowsAt] at h h'; omega

/-- The tile's first row. -/
def row2 : ℕ := ((L 1).val * 2 + (L 0).val) * 1024

def inv2 (O : CellTallies nD τ sig (HIx 2)) (W : Waits sig (HIx 2)) (k : Nat) (_ : PUnit) : sProp 𝕄 :=
  iprop(MayWaits (thr2 d L) (none : HIx 2) O
    ∗ ((qV).view.loc (thr2 d L) ↦{qq} vq)
    ∗ ((wV).view.loc (thr2 d L) ↦{qw} vw)
    ∗ ((rV).view.loc (thr2 d L) ↦[rowsAt d L (row2 L) (8 * k)]{fullShare} found d L vq vw)
    ∗ ((rV).view.loc (thr2 d L) ↦[rowsAt d L (row2 L + 8 * k) (1024 - 8 * k)]{fullShare} f0)
    ∗ (∃ f, (yV).view.loc (thr2 d L) ↦{fullShare} f)
    ∗ (∃ f, (gV).view.loc (thr2 d L) ↦{fullShare} f)
    ∗ (∃ f, (zV).view.loc (thr2 d L) ↦{fullShare} f)
    ∗ semVal (thr2 d L, SemLoc.dma cc2_scoped0.sem) 0
    ∗ semVal (thr2 d L, SemLoc.dma cc2_scoped1.sem) 0
    ∗ semVal (thr2 d L, SemLoc.dma cc2_scratch3.sem) 0
    ∗ ∃ W', ⌜∀ p ∈ W', p ∈ W ∨ p.2 = none⌝ ∗ owes (thr2 d L) O W')

/-- The chunk of the queries a trip reads. -/
abbrev chunk2 (k : Fin k2_t1_loop.trips) : S8x128.Idx → BitVec 32 :=
  ((qV).slice (Rect.unit (k2_off1 L k) S8x128.size (k2_off1_inb L k)) (fun _ => rfl)).view.read (Elt F) vq

/-- The chunk of the results a trip writes. -/
abbrev outChunk (k : Fin k2_t1_loop.trips) : Memref sig .scVector .hbm S8x128 .i32 :=
  (rV).slice (Rect.unit (s := S32768x128) (k2_off1 L k) S8x128.size (k2_off1_inb L k)) (fun _ => rfl)

theorem gV_hash (fh : Buf (Elt F) ((gV).view.loc (thr2 d L))) (fx fy : S8x128.Idx → BitVec 32) (he : fx = fy)
    (Lst : List (View.Piece (Elt F) S8x128 .i32)) (hp : ∀ p ∈ Lst, ∀ x : p.1.shape.Idx, p.2 x = hash (fx (p.1.emb x)))
    (hc : View.Piece.tiled Lst ![1, 16] = true) :
    ((gV).view.loc (thr2 d L) ↦{fullShare} (gV).view.writes (Elt F) fh Lst : sProp 𝕄)
      ⊢ ((gV).view.loc (thr2 d L) ↦{fullShare} (fun y => hash (fy y))) :=
  he ▸ Entails.of_eq (congrArg (fun f => ((gV).view.loc (thr2 d L) ↦{fullShare} f : sProp 𝕄)) (read_writes_hash (gV).view fh fx Lst hp hc))

/-! ## The eight gathers of a chunk as one batch -/

/-- The windowed bits as the gathers address them. -/
abbrev words : Memref sig .scVector .hbm S16777216 .i32 :=
  (wV).slice (Rect.unit (s := S16777216) ![0] S16777216.size inb_S16777216_S16777216_0) (fun _ => rfl)

/-- The hashes of a block of words. -/
abbrev hashes2 (fx : S8x128.Idx → BitVec 32) : Buf (Elt F) ((gV).view.loc (thr2 d L)) := fun y => hash (fx y)

theorem hin_row2 (fx : S8x128.Idx → BitVec 32) (j : Fin 8) (x : S128.Idx) :
    ((rowM gV j).view.read (Elt F) (hashes2 d L fx) x).toNat < S16777216.size gathers_S16777216_S128.axis := by
  rw [rowM_read]; exact hash_lt _

/-- What entry `k` of the gather into row `j` leaves. -/
def entry2 (fx : S8x128.Idx → BitVec 32) (fz : Buf (Elt F) ((zV).view.loc (thr2 d L))) (j : Fin 8) (k : Fin 128) : sProp 𝕄 :=
  _root_.Bloom.gatherEntry (thr2 d L) words (rowM zV j) gathers_S16777216_S128 (rowM gV j) rfl (by decide)
    (pieceOf qw 8 (by decide) j) fullShare vw fz (hashes2 d L fx) (hin_row2 d L fx j) k

instance (fx : S8x128.Idx → BitVec 32) (fz) (j : Fin 8) (k : Fin 128) : Storable (upEmb : UEmb _ 𝕄) (entry2 (F := F) d L vw qw fx fz j k) := by
  unfold entry2 _root_.Bloom.gatherEntry _root_.Bloom.entryPts; infer_instance

/-- The members of the chunk's batch. -/
def members2 (fx : S8x128.Idx → BitVec 32) (fz : Buf (Elt F) ((zV).view.loc (thr2 d L))) (t : Fin (8 * 128)) : sProp 𝕄 :=
  entry2 d L vw qw fx fz (finProdFinEquiv.symm t).1 (finProdFinEquiv.symm t).2

instance (fx : S8x128.Idx → BitVec 32) (fz) (t : Fin (8 * 128)) : Storable (upEmb : UEmb _ 𝕄) (members2 (F := F) d L vw qw fx fz t) := by
  unfold members2; infer_instance

theorem member2_at (Φ : Fin 8 → Fin 128 → sProp 𝕄) (j : Fin 8) (k : Fin 128) (h : 128 * j.val + k.val < 8 * 128) :
    Φ j k = Φ (finProdFinEquiv.symm (⟨128 * j.val + k.val, h⟩ : Fin (8 * 128))).1 (finProdFinEquiv.symm (⟨128 * j.val + k.val, h⟩ : Fin (8 * 128))).2 := by
  rw [show (⟨128 * j.val + k.val, h⟩ : Fin (8 * 128)) = finProdFinEquiv (j, k) from Fin.ext (Nat.add_comm _ _), Equiv.symm_apply_apply]

/-- What row `j`'s gather is issued with. -/
def fuel2 (fx : S8x128.Idx → BitVec 32) (fz : Buf (Elt F) ((zV).view.loc (thr2 d L))) (j : Fin 8) : sProp 𝕄 :=
  iprop(((words).view.loc (thr2 d L) ↦[(words).view.set]{pieceOf qw 8 (by decide) j} vw)
    ∗ ((rowM zV j).view.loc (thr2 d L) ↦[(rowM zV j).view.set]{fullShare} fz)
    ∗ ((rowM gV j).view.loc (thr2 d L) ↦[(rowM gV j).view.set]{fullShare} (hashes2 d L fx)))

/-- Before the issue of row `j`'s gather. -/
def issue2 (fx : S8x128.Idx → BitVec 32) (fz : Buf (Elt F) ((zV).view.loc (thr2 d L))) (j : ℕ) : sProp 𝕄 :=
  iprop(bigSep (pending (n := 8) j) (fuel2 d L vw qw fx fz)
    ∗ Batch countersEmb (thr2 d L) (.dma cc2_scratch3.sem) (none : HIx 2) 32 (members2 d L vw qw fx fz) (128 * j) 0)

theorem wp_issue2 (fx : S8x128.Idx → BitVec 32) (fz : Buf (Elt F) ((zV).view.loc (thr2 d L))) (j j' : ℕ) (hj : j < 8) (hj' : j' = j + 1)
    {offs : Memref sig .scVector .vmem S128 .i32} (ho : offs = rowM gV ⟨j, hj⟩) {src : Memref sig .scVector .hbm S16777216 .i32} (hsrc : src = words)
    {dst : Memref sig .scVector .vmem S128 .i32} (hdst : dst = rowM zV ⟨j, hj⟩)
    {α : Type} {Q : α → sProp 𝕄}
    {hp : (thr2 d L).2.kind = .scVector} {hw : src.view.WordExact} {he : EltTy.i32.bits = 32} {hsp : Space.hbm = .hbm ∨ Space.hbm = .shared} {hr : S16777216.StreamRows 0}
    {hn : S128.numel = S128.size gathers_S16777216_S128.axis'}
    {k : PUnit → Prog (TpuEff nD τ sig (Elt F) Λ₀ (thr2 d L).2) α} :
    issue2 d L vw qw fx fz j
      ⊢ iprop((issue2 d L vw qw fx fz j' -∗ wp frame (wpE (defs₀ (F := F)) 𝒱₀ (thr2 d L) none) Set.univ (k ⟨⟩) Q)
          -∗ wp frame (wpE (defs₀ (F := F)) 𝒱₀ (thr2 d L) none) Set.univ
            (SparseCore.enqueueIndirectGather hp src dst gathers_S16777216_S128 offs hn cc2_scratch3.sem hw he hsp hr >>= k) Q) := by
  subst ho hdst hsrc hj'
  unfold issue2
  iintro ⟨Hf, HB⟩ Hk
  ihave Hf' := (Entails.of_eq (bigSep_pending_step (fuel2 d L vw qw fx fz) j hj)) $$ Hf
  unfold fuel2
  icases Hf' with ⟨⟨Hw, Hz, Hg⟩, Hf⟩
  iapply (_root_.Bloom.wp_issueGather countersEmb 𝒱₀ (thr2 d L) none (D := members2 d L vw qw fx fz) (b := 128 * j) (none : HIx 2) 32
    (by decide) (fun r => rfl) (hin_row2 d L fx ⟨j, hj⟩) (show 128 * j + 128 ≤ 8 * 128 by omega)
    (fun k => Entails.of_eq (member2_at (entry2 d L vw qw fx fz) ⟨j, hj⟩ k _))) $$ [Hw Hz Hg HB]
  · isplitl [Hw]; · iexact Hw
    isplitl [Hz]; · iexact Hz
    isplitl [Hg]; · iexact Hg
    iexact HB
  iintro HB
  iapply Hk
  isplitl [Hf]; · iexact Hf
  iexact HB

/-- Between the waits: `u` rows' credit drawn. -/
def drain2 (fx : S8x128.Idx → BitVec 32) (fz : Buf (Elt F) ((zV).view.loc (thr2 d L))) (O : CellTallies nD τ sig (HIx 2)) (W : Waits sig (HIx 2)) (u : ℕ) : sProp 𝕄 :=
  iprop(MayWaits (thr2 d L) (none : HIx 2) O
    ∗ Batch countersEmb (thr2 d L) (.dma cc2_scratch3.sem) (none : HIx 2) 32 (members2 d L vw qw fx fz) (8 * 128) (128 * 32 * u)
    ∗ ∃ W', ⌜∀ p ∈ W', p ∈ W ∨ p.2 = none⌝ ∗ owes (thr2 d L) O W')

theorem wp_drain2 (fx : S8x128.Idx → BitVec 32) (fz : Buf (Elt F) ((zV).view.loc (thr2 d L))) (O : CellTallies nD τ sig (HIx 2)) (W : Waits sig (HIx 2))
    (u u' : ℕ) (hu : u < 8) (hu' : u' = u + 1) {src : Memref sig .scVector .hbm S16777216 .i32} {dst : Memref sig .scVector .vmem S128 .i32}
    {α : Type} {Q : α → sProp 𝕄} {hsrc : src.view.WordExact} {hdst : dst.view.WordExact}
    {k : PUnit → Prog (TpuEff nD τ sig (Elt F) Λ₀ (thr2 d L).2) α} :
    drain2 d L vw qw fx fz O W u
      ⊢ iprop((drain2 d L vw qw fx fz O W u' -∗ wp frame (wpE (defs₀ (F := F)) 𝒱₀ (thr2 d L) none) Set.univ (k ⟨⟩) Q)
          -∗ wp frame (wpE (defs₀ (F := F)) 𝒱₀ (thr2 d L) none) Set.univ
            (SparseCore.waitIndirectGather (p := (thr2 d L).2) cc2_scratch3.sem src dst hsrc hdst >>= k) Q) := by
  subst hu'
  unfold drain2
  rw [SparseCore.waitIndirectGather_bind (c := thr2 d L)]
  iintro ⟨Hmw, HB, %W', %hW', HO⟩ Hk
  ihave #Hm := Transfers.MayWaits.elim (SemLoc.dma cc2_scratch3.sem) $$ Hmw
  iapply (Transfers.wp_waitBatchMulO countersEmb 𝒱₀ (thr2 d L) none (none : HIx 2) (N := 32) 128 (show dst.view.dmaCredit = 128 * 32 from rfl)
    (show 128 * 32 * u + 128 * 32 ≤ 32 * (8 * 128) by omega)) $$ [HB HO]
  · isplitl [HB]; · iexact HB
    isplitl [HO]; · iexact HO
    iexact Hm
  iintro ⟨HB, HO⟩
  iapply Hk
  isplitl [Hmw]; · iexact Hmw
  isplitl [HB]; · iexact HB
  iexists (insert (SemLoc.dma cc2_scratch3.sem, (none : HIx 2)) W'); isplitr
  · ipureintro; intro p hp
    rcases Finset.mem_insert.mp hp with hp | hp
    · exact .inr (show p.2 = none by rw [hp])
    · exact hW' p hp
  · iexact HO

/-! ## A chunk's rows -/

theorem outChunk_set (k : Fin k2_t1_loop.trips) : (outChunk L k).view.set = rowsAt d L (row2 L + 8 * k.val) 8 := by
  ext x
  rw [mem_rowsAt, View.set_slice, Finset.mem_map]
  have h0 : k2_off1 L k 0 = row2 L + 8 * k.val := by
    rw [k2_off1_eq]
    show 2048 * (L 1).val + 1024 * (L 0).val + 8 * k.val = _
    unfold row2; omega
  have h1 : k2_off1 L k 1 = 0 := by rw [k2_off1_eq]; rfl
  constructor
  · rintro ⟨y, hy, rfl⟩
    have h := (Rect.mem_set_unit (s := S32768x128)).mp hy 0
    have h' : k2_off1 L k 0 ≤ (y 0).val ∧ (y 0).val < k2_off1 L k 0 + 8 := h
    show row2 L + 8 * k.val ≤ (y 0).val ∧ (y 0).val < _
    omega
  · intro h
    refine ⟨x, (Rect.mem_set_unit (s := S32768x128)).mpr fun a => ?_, rfl⟩
    match a with
    | 0 => show k2_off1 L k 0 ≤ (x 0).val ∧ (x 0).val < k2_off1 L k 0 + 8; omega
    | 1 => show k2_off1 L k 1 ≤ (x 1).val ∧ (x 1).val < k2_off1 L k 1 + 128; have := (x 1).isLt; have : (x 1).val < 128 := this; omega

theorem words_set : (words).view.set = (Finset.univ : Finset (Idx ((wV).view.loc (thr2 d L)))) := by
  ext x
  rw [View.set_slice, Finset.mem_map]
  refine ⟨fun _ => Finset.mem_univ _, fun _ => ⟨x, (Rect.mem_set_unit (s := S16777216)).mpr fun a => ?_, rfl⟩⟩
  have ha : a = (0 : Fin 1) := Subsingleton.elim (α := Fin 1) _ _
  subst ha
  have : (x 0).val < 16777216 := (x 0).isLt
  show 0 ≤ (x 0).val ∧ (x 0).val < 0 + 16777216
  omega

/-- The word a gather lands at a place of row `j` is the one its query's hash names. -/
theorem gathered (fx : S8x128.Idx → BitVec 32) (j : Fin 8) (x : S128.Idx) :
    (SparseCore.gatherPayload gathers_S16777216_S128 ((words).view.read (Elt F) vw)
      (SparseCore.rows ((rowM gV j).view.read (Elt F) (hashes2 d L fx)) rfl (hin_row2 d L fx j)) x : BitVec 32) = vw (pos (fx (rowIx j x))) := by
  show vw ((words).view.emb (gathers_S16777216_S128.idx _ x)) = _
  congr 1
  funext a
  have ha : a = (0 : Fin 1) := Subsingleton.elim (α := Fin 1) _ _
  subst ha
  refine Fin.ext ?_
  show 0 + 1 * (gathers_S16777216_S128.idx (SparseCore.rows ((rowM gV j).view.read (Elt F) (hashes2 d L fx)) rfl (hin_row2 d L fx j)) x 0).val = (hash (fx (rowIx j x))).toNat
  have h := Shape.Gathers.idx_axis gathers_S16777216_S128 (SparseCore.rows ((rowM gV j).view.read (Elt F) (hashes2 d L fx)) rfl (hin_row2 d L fx j)) x
  rw [show (gathers_S16777216_S128.idx (SparseCore.rows ((rowM gV j).view.read (Elt F) (hashes2 d L fx)) rfl (hin_row2 d L fx j)) x 0).val = _ from congrArg Fin.val h]
  have he : _root_.Bloom.entryOf S128 (rfl : S128.numel = S128.size gathers_S16777216_S128.axis') (x 0) = x :=
    (Equiv.symm_apply_eq _).mpr (Fin.ext (Shape.rowMajor_val_one (d := ![128]) x).symm)
  have hr := rowM_read (F := F) gV j (hashes2 d L fx) (_root_.Bloom.entryOf S128 (rfl : S128.numel = S128.size gathers_S16777216_S128.axis') (x 0))
  rw [he] at hr
  have h3 : (View.read (Elt F) (rowM gV j).view (hashes2 d L fx) (_root_.Bloom.entryOf S128 (rfl : S128.numel = S128.size gathers_S16777216_S128.axis') (x 0)) : BitVec 32).toNat
      = (hash (fx (rowIx j x))).toNat := by rw [he, hr]; rfl
  exact (by omega : ∀ n m : ℕ, n = m → 0 + 1 * n = m) _ _ h3

/-! ## Into the batch and out of it -/

theorem gRows_eq (f : Buf (Elt F) ((gV).view.loc (thr2 d L))) :
    ((gV).view.loc (thr2 d L) ↦{fullShare} f : sProp 𝕄)
      = bigSep Finset.univ fun j : Fin 8 => ((rowM gV j).view.loc (thr2 d L) ↦[(rowM gV j).view.set]{fullShare} f) := by
  have h1 : (Finset.univ : Finset (Idx ((gV).view.loc (thr2 d L)))) = (gV).view.set := (View.set_whole (cc2_scratch1 : Ref sig .scVector)).symm
  rw [h1]
  refine (pointsTo_rows (thr2 d L) (gV).view 0 fullShare f).trans (BI.bigSep_congr fun j _ => ?_)
  exact congrArg (fun I => ((gV).view.loc (thr2 d L) ↦[I]{fullShare} f : sProp 𝕄)) (rowM_set gV j).symm

theorem zRows_eq (f : Buf (Elt F) ((zV).view.loc (thr2 d L))) :
    ((zV).view.loc (thr2 d L) ↦{fullShare} f : sProp 𝕄)
      = bigSep Finset.univ fun j : Fin 8 => ((rowM zV j).view.loc (thr2 d L) ↦[(rowM zV j).view.set]{fullShare} f) := by
  have h1 : (Finset.univ : Finset (Idx ((zV).view.loc (thr2 d L)))) = (zV).view.set := (View.set_whole (cc2_scratch2 : Ref sig .scVector)).symm
  rw [h1]
  refine (pointsTo_rows (thr2 d L) (zV).view 0 fullShare f).trans (BI.bigSep_congr fun j _ => ?_)
  exact congrArg (fun I => ((zV).view.loc (thr2 d L) ↦[I]{fullShare} f : sProp 𝕄)) (rowM_set zV j).symm

theorem words_eq :
    ((wV).view.loc (thr2 d L) ↦{qw} vw : sProp 𝕄)
      = bigSep Finset.univ fun j : Fin 8 => ((words).view.loc (thr2 d L) ↦[(words).view.set]{pieceOf qw 8 (by decide) j} vw) := by
  rw [words_set d L]
  exact pointsTo_piecesOf _ _ _ _

theorem enter2 (fx : S8x128.Idx → BitVec 32) (fz : Buf (Elt F) ((zV).view.loc (thr2 d L))) :
    iprop(((gV).view.loc (thr2 d L) ↦{fullShare} (hashes2 d L fx)) ∗ ((wV).view.loc (thr2 d L) ↦{qw} vw)
      ∗ ((zV).view.loc (thr2 d L) ↦{fullShare} fz) ∗ semVal (thr2 d L, SemLoc.dma cc2_scratch3.sem) 0)
      ⊢ (|={Set.univ}=> issue2 d L vw qw fx fz 0 : sProp 𝕄) := by
  rw [gRows_eq, zRows_eq, words_eq]
  iintro ⟨Hg, Hw, Hz, Hs⟩
  imod (Transfers.batch_alloc' countersEmb (thr2 d L) (none : HIx 2) 32 (members2 d L vw qw fx fz)) $$ Hs with HB
  ihave Hf := Transfers.bigSep_sep_in _ _ _ $$ [Hz Hg]; · isplitl [Hz] <;> iassumption
  ihave Hf := Transfers.bigSep_sep_in _ _ _ $$ [Hw Hf]; · isplitl [Hw] <;> iassumption
  imodintro
  unfold issue2
  rw [← bigSep_pending_zero]
  isplitl [Hf]; · iexact Hf
  iexact HB

theorem issued2 (fx : S8x128.Idx → BitVec 32) (fz : Buf (Elt F) ((zV).view.loc (thr2 d L))) (O : CellTallies nD τ sig (HIx 2)) (W W' : Waits sig (HIx 2))
    (hW' : ∀ p ∈ W', p ∈ W ∨ p.2 = none) :
    iprop(MayWaits (thr2 d L) (none : HIx 2) O ∗ issue2 d L vw qw fx fz 8 ∗ owes (thr2 d L) O W') ⊢ drain2 d L vw qw fx fz O W 0 := by
  unfold issue2 drain2
  iintro ⟨Hm, ⟨-, HB⟩, HO⟩
  isplitl [Hm]; · iexact Hm
  isplitl [HB]; · iexact HB
  iexists W'; isplitr
  · ipureintro; exact hW'
  · iexact HO

/-- The gathered words of a block of queries. -/
abbrev looked (fx : S8x128.Idx → BitVec 32) : Buf (Elt F) ((zV).view.loc (thr2 d L)) := fun y => vw (pos (fx y))

theorem leave2 (fx : S8x128.Idx → BitVec 32) (fz : Buf (Elt F) ((zV).view.loc (thr2 d L))) (O : CellTallies nD τ sig (HIx 2)) (W : Waits sig (HIx 2)) :
    drain2 d L vw qw fx fz O W 8
      ⊢ (|={Set.univ}=> iprop(MayWaits (thr2 d L) (none : HIx 2) O
        ∗ ((gV).view.loc (thr2 d L) ↦{fullShare} (hashes2 d L fx)) ∗ ((wV).view.loc (thr2 d L) ↦{qw} vw)
        ∗ ((zV).view.loc (thr2 d L) ↦{fullShare} (looked d L vw fx))
        ∗ semVal (thr2 d L, SemLoc.dma cc2_scratch3.sem) 0
        ∗ ∃ W', ⌜∀ p ∈ W', p ∈ W ∨ p.2 = none⌝ ∗ owes (thr2 d L) O W') : sProp 𝕄) := by
  unfold drain2
  rw [gRows_eq, zRows_eq, words_eq]
  iintro ⟨Hm, HB, HO⟩
  imod (Transfers.batch_collect' countersEmb (thr2 d L) (N := 32) (by decide)) $$ HB with ⟨HD, Hs⟩
  have hj : bigSep Finset.univ (members2 d L vw qw fx fz : _ → sProp 𝕄)
      ⊢ bigSep Finset.univ fun j : Fin 8 => iprop(((rowM zV j).view.loc (thr2 d L) ↦[(rowM zV j).view.set]{fullShare} (looked d L vw fx))
          ∗ ((words).view.loc (thr2 d L) ↦[(words).view.set]{pieceOf qw 8 (by decide) j} vw)
          ∗ ((rowM gV j).view.loc (thr2 d L) ↦[(rowM gV j).view.set]{fullShare} (hashes2 d L fx))) := by
    refine (Entails.of_eq (_root_.Bloom.bigSep_runs (entry2 d L vw qw fx fz))).trans (BI.bigSep_mono fun j _ => ?_)
    refine (_root_.Bloom.gatherEntry_join (thr2 d L) words (rowM zV j) gathers_S16777216_S128 (rowM gV j) rfl (by decide)
      (pieceOf qw 8 (by decide) j) fullShare vw fz (hashes2 d L fx) (hin_row2 d L fx j)).trans (Entails.of_eq (congrArg (fun P => iprop(P ∗ _)) ?_))
    refine pointsTo_congr fun i hi => ?_
    obtain ⟨x, -, rfl⟩ := Finset.mem_map.mp hi
    rw [View.write_emb_of_mem _ _ (Finset.mem_univ x)]
    refine (gathered d L vw fx j x).trans ?_
    show _ = vw (pos (fx ((rowM zV j).view.emb x)))
    rw [rowM_emb]; rfl
  ihave HD := hj $$ HD
  ihave HD := Transfers.bigSep_sep_out _ _ _ $$ HD
  icases HD with ⟨Hz, HD⟩
  ihave HD := Transfers.bigSep_sep_out _ _ _ $$ HD
  icases HD with ⟨Hw, Hg⟩
  imodintro
  isplitl [Hm]; · iexact Hm
  isplitl [Hg]; · iexact Hg
  isplitl [Hw]; · iexact Hw
  isplitl [Hz]; · iexact Hz
  isplitl [Hs]; · iexact Hs
  iexact HO

end Cert.KernelIdeal.Bloom
-- ==== Proof.KernelIdeal.GatherTrip.lean ====
/-
  One trip of the gather's loop.
-/
module

public import proofs.«01_k».proof.Proof.KernelIdeal.Gather

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ (UU F) ℕ

local notation "qV" => (Memref.whole Cert.KernelIdeal.main_v5_scv : Memref Cert.KernelIdeal.sig Kind.scVector Space.hbm Cert.KernelIdeal.S32768x128 EltTy.i32)
local notation "wV" => (Memref.whole Cert.KernelIdeal.main_v16_scv : Memref Cert.KernelIdeal.sig Kind.scVector Space.hbm Cert.KernelIdeal.S16777216 EltTy.i32)
local notation "rV" => (Memref.whole Cert.KernelIdeal.main_v17_scv : Memref Cert.KernelIdeal.sig Kind.scVector Space.hbm Cert.KernelIdeal.S32768x128 EltTy.i32)
local notation "yV" => (Memref.whole Cert.KernelIdeal.cc2_scratch0 : Memref Cert.KernelIdeal.sig Kind.scVector Space.vmem Cert.KernelIdeal.S8x128 EltTy.i32)
local notation "gV" => (Memref.whole Cert.KernelIdeal.cc2_scratch1 : Memref Cert.KernelIdeal.sig Kind.scVector Space.vmem Cert.KernelIdeal.S8x128 EltTy.i32)
local notation "zV" => (Memref.whole Cert.KernelIdeal.cc2_scratch2 : Memref Cert.KernelIdeal.sig Kind.scVector Space.vmem Cert.KernelIdeal.S8x128 EltTy.i32)

variable (d : Dev nD) (L : grid2.Coords)

variable (vq : Buf (Elt F) ((qV).view.loc (thr2 d L))) (vw : Buf (Elt F) ((wV).view.loc (thr2 d L)))
  (f0 : Buf (Elt F) ((rV).view.loc (thr2 d L))) (qq qw : PosShare TreeShare)

theorem k_lt (k : Fin k2_t1_loop.trips) : k.val < 128 := k.isLt

/-- The rows still to be written: the trip's chunk and the rest. -/
theorem rest_split (k : Fin k2_t1_loop.trips) :
    ((rV).view.loc (thr2 d L) ↦[rowsAt d L (row2 L + 8 * k.val) (1024 - 8 * k.val)]{fullShare} f0 : sProp 𝕄)
      ⊢ iprop(((outChunk L k).view.loc (thr2 d L) ↦[(outChunk L k).view.set]{fullShare} f0)
        ∗ ((rV).view.loc (thr2 d L) ↦[rowsAt d L (row2 L + 8 * (k.val + 1)) (1024 - 8 * (k.val + 1))]{fullShare} f0)) := by
  have hk := k_lt k
  rw [outChunk_set d L k, show 1024 - 8 * k.val = 8 + (1024 - 8 * (k.val + 1)) by omega, rowsAt_add,
    show row2 L + 8 * (k.val + 1) = row2 L + 8 * k.val + 8 by omega]
  exact (pointsTo_union (rowsAt_disjoint d L _ _ _)).1

/-- The rows written so far and the trip's chunk, as the trip wrote it. -/
theorem done_join (k : Fin k2_t1_loop.trips) (pay : S8x128.Idx → Elt F .i32) (hpay : pay = fun y => vw (pos (chunk2 d L vq k y))) :
    iprop(((rV).view.loc (thr2 d L) ↦[rowsAt d L (row2 L) (8 * k.val)]{fullShare} found d L vq vw)
      ∗ ((outChunk L k).view.loc (thr2 d L) ↦[(outChunk L k).view.set]{fullShare} (outChunk L k).view.writes (Elt F) f0 [⟨Rect.whole S8x128, pay⟩]))
      ⊢ ((rV).view.loc (thr2 d L) ↦[rowsAt d L (row2 L) (8 * (k.val + 1))]{fullShare} found d L vq vw : sProp 𝕄) := by
  have h : ((outChunk L k).view.loc (thr2 d L) ↦[(outChunk L k).view.set]{fullShare} (outChunk L k).view.writes (Elt F) f0 [⟨Rect.whole S8x128, pay⟩] : sProp 𝕄)
      = ((rV).view.loc (thr2 d L) ↦[rowsAt d L (row2 L + 8 * k.val) 8]{fullShare} found d L vq vw) := by
    rw [← outChunk_set d L k]
    refine pointsTo_congr fun i hi => ?_
    obtain ⟨x, -, rfl⟩ := Finset.mem_map.mp hi
    rw [← View.write_univ_eq_writes_whole (outChunk L k).view f0 [] pay, View.writes_nil, View.write_emb_of_mem _ _ (Finset.mem_univ x), hpay]
    rfl
  rw [h, show 8 * (k.val + 1) = 8 * k.val + 8 by omega, rowsAt_add]
  exact (pointsTo_union (rowsAt_disjoint d L _ _ _)).2

set_option maxHeartbeats 4000000 in
theorem trip2 (O : CellTallies nD τ sig (HIx 2)) (W : Waits sig (HIx 2)) (k : Fin k2_t1_loop.trips) (v2 : BitVec 32) :
    inv2 d L vq vw f0 qq qw O W k.val ⟨⟩
      ⊢ wp frame (wpE (defs₀ (F := F)) 𝒱₀ (thr2 d L) none) Set.univ
          (k2_t1_body L qV (Memref.isWhole_whole _) wV (Memref.isWhole_whole _) rV (Memref.isWhole_whole _)
            yV (Memref.isWhole_whole _) gV (Memref.isWhole_whole _) zV (Memref.isWhole_whole _) cc2_scratch3 cc2_scoped0 cc2_scoped1 v2 k ⟨⟩)
          fun r => inv2 d L vq vw f0 qq qw O W (k.val + 1) r := by
  unfold k2_t1_body inv2
  iintro ⟨Hmw, Ha, Hw, Hd, Hr, ⟨%fx, Hx⟩, ⟨%fh, Hh⟩, ⟨%fz, Hz⟩, HsA, HsC, HsB, %W', %hW', HO⟩
  sl_exec (disch := exact View.amount_pos _ _ (show 0 < S8x128.numel by decide))
  ihave Hh' := (gV_hash d L _ (View.write (Elt F) (yV).view fx (chunk2 d L vq k) Finset.univ) (chunk2 d L vq k) (View.write_whole_univ _ _ _) _ ?hp ?hc) $$ Hh
  case hp =>
    unfold trip2.sl.Hh_64
    simp only [List.forall_mem_cons]
    repeat' apply And.intro
    all_goals first | exact fun x => hashVec_apply _ x | exact fun p hp => absurd hp List.not_mem_nil
  case hc => rfl
  imod (enter2 d L vw qw (chunk2 d L vq k) fz) $$ [Hh' Hw Hz HsB] with HI
  · isplitl [Hh']; · iexact Hh'
    isplitl [Hw]; · iexact Hw
    isplitl [Hz]; · iexact Hz
    iexact HsB
  iapply (wp_issue2 d L vw qw (chunk2 d L vq k) fz 0 1 (by decide) rfl rfl rfl rfl) $$ HI
  iintro HI
  iapply (wp_issue2 d L vw qw (chunk2 d L vq k) fz 1 2 (by decide) rfl rfl rfl rfl) $$ HI
  iintro HI
  sl_exec
  iapply (wp_issue2 d L vw qw (chunk2 d L vq k) fz 2 3 (by decide) rfl rfl rfl rfl) $$ HI
  iintro HI
  iapply (wp_issue2 d L vw qw (chunk2 d L vq k) fz 3 4 (by decide) rfl rfl rfl rfl) $$ HI
  iintro HI
  iapply (wp_issue2 d L vw qw (chunk2 d L vq k) fz 4 5 (by decide) rfl rfl rfl rfl) $$ HI
  iintro HI
  iapply (wp_issue2 d L vw qw (chunk2 d L vq k) fz 5 6 (by decide) rfl rfl rfl rfl) $$ HI
  iintro HI
  iapply (wp_issue2 d L vw qw (chunk2 d L vq k) fz 6 7 (by decide) rfl rfl rfl rfl) $$ HI
  iintro HI
  iapply (wp_issue2 d L vw qw (chunk2 d L vq k) fz 7 8 (by decide) rfl rfl rfl rfl) $$ HI
  iintro HI
  ihave HI := (issued2 d L vw qw (chunk2 d L vq k) fz O W (insert (SemLoc.dma cc2_scoped0.sem, (none : HIx 2)) W') ?hw) $$ [Hmw HI HO]
  case hw =>
    intro p hp
    rcases Finset.mem_insert.mp hp with hp | hp
    · exact .inr (by rw [hp])
    · exact hW' p hp
  · isplitl [Hmw]; · iexact Hmw
    isplitl [HI]; · iexact HI
    iexact HO
  sl_exec
  iapply (wp_drain2 d L vw qw (chunk2 d L vq k) fz O W 0 1 (by decide) rfl) $$ HI
  iintro HI
  rw [wp_ret]
  imodintro
  iapply (wp_drain2 d L vw qw (chunk2 d L vq k) fz O W 1 2 (by decide) rfl) $$ HI
  iintro HI
  iapply (wp_drain2 d L vw qw (chunk2 d L vq k) fz O W 2 3 (by decide) rfl) $$ HI
  iintro HI
  iapply (wp_drain2 d L vw qw (chunk2 d L vq k) fz O W 3 4 (by decide) rfl) $$ HI
  iintro HI
  iapply (wp_drain2 d L vw qw (chunk2 d L vq k) fz O W 4 5 (by decide) rfl) $$ HI
  iintro HI
  sl_exec
  iapply (wp_drain2 d L vw qw (chunk2 d L vq k) fz O W 5 6 (by decide) rfl) $$ HI
  iintro HI
  rw [wp_ret]
  imodintro
  iapply (wp_drain2 d L vw qw (chunk2 d L vq k) fz O W 6 7 (by decide) rfl) $$ HI
  iintro HI
  iapply (wp_drain2 d L vw qw (chunk2 d L vq k) fz O W 7 8 (by decide) rfl) $$ HI
  iintro HI
  imod (leave2 d L vw qw (chunk2 d L vq k) fz O W) $$ HI with ⟨Hmw, Hh, Hw, Hz, HsB, %W'', %hW'', HO⟩
  ihave Hr := (rest_split d L f0 k) $$ Hr
  icases Hr with ⟨Hc, Hr⟩
  sl_exec
  ihave Hd := (done_join d L vq vw f0 k (trip2.sl.dma0_1 d L vq vw k) rfl) $$ [Hd Hc]
  · isplitl [Hd] <;> iassumption
  rw [wp_ret]
  imodintro
  isplitl [Hmw]; · iexact Hmw
  isplitl [Ha]; · iexact Ha
  isplitl [Hw]; · iexact Hw
  isplitl [Hd]; · iexact Hd
  isplitl [Hr]; · iexact Hr
  isplitl [Hx]; · iexists _; iexact Hx
  isplitl [Hh]; · iexists _; iexact Hh
  isplitl [Hz]; · iexists _; iexact Hz
  isplitl [HsA]; · iexact HsA
  isplitl [HsC]; · iexact HsC
  isplitl [HsB]; · iexact HsB
  iexists insert (SemLoc.dma cc2_scoped1.sem, (none : HIx 2)) W''
  isplitr [HO]
  · ipureintro
    intro p hp
    rcases Finset.mem_insert.mp hp with hp | hp
    · exact .inr (by rw [hp])
    · exact hW'' p hp
  · iexact HO

end Cert.KernelIdeal.Bloom
-- ==== Proof.KernelIdeal.GatherBody.lean ====
/-
  The gather's whole task on one vector subcore.
-/
module

public import proofs.«01_k».proof.Proof.KernelIdeal.GatherTrip

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ (UU F) ℕ

local notation "qV" => (Memref.whole Cert.KernelIdeal.main_v5_scv : Memref Cert.KernelIdeal.sig Kind.scVector Space.hbm Cert.KernelIdeal.S32768x128 EltTy.i32)
local notation "wV" => (Memref.whole Cert.KernelIdeal.main_v16_scv : Memref Cert.KernelIdeal.sig Kind.scVector Space.hbm Cert.KernelIdeal.S16777216 EltTy.i32)
local notation "rV" => (Memref.whole Cert.KernelIdeal.main_v17_scv : Memref Cert.KernelIdeal.sig Kind.scVector Space.hbm Cert.KernelIdeal.S32768x128 EltTy.i32)
local notation "yV" => (Memref.whole Cert.KernelIdeal.cc2_scratch0 : Memref Cert.KernelIdeal.sig Kind.scVector Space.vmem Cert.KernelIdeal.S8x128 EltTy.i32)
local notation "gV" => (Memref.whole Cert.KernelIdeal.cc2_scratch1 : Memref Cert.KernelIdeal.sig Kind.scVector Space.vmem Cert.KernelIdeal.S8x128 EltTy.i32)
local notation "zV" => (Memref.whole Cert.KernelIdeal.cc2_scratch2 : Memref Cert.KernelIdeal.sig Kind.scVector Space.vmem Cert.KernelIdeal.S8x128 EltTy.i32)

variable (d : Dev nD) (L : grid2.Coords)

variable (vq : Buf (Elt F) ((qV).view.loc (thr2 d L))) (vw : Buf (Elt F) ((wV).view.loc (thr2 d L)))
  (f0 : Buf (Elt F) ((rV).view.loc (thr2 d L))) (qq qw : PosShare TreeShare)

abbrev cA2 (d : Dev nD) (L : grid2.Coords) : GSem nD τ sig := (thr2 d L, .dma cc2_scoped0.sem)
abbrev cC2 (d : Dev nD) (L : grid2.Coords) : GSem nD τ sig := (thr2 d L, .dma cc2_scoped1.sem)
abbrev cB2 (d : Dev nD) (L : grid2.Coords) : GSem nD τ sig := (thr2 d L, .dma cc2_scratch3.sem)

theorem ownSems0_V2 :
    (ownSems0 (thr2 d L) : sProp 𝕄)
      = iprop(semVal (cA2 d L) 0 ∗ semVal (cC2 d L) 0 ∗ semVal (cB2 d L) 0
          ∗ bigSep ((((ownCells (thr2 d L)).erase (cA2 d L)).erase (cC2 d L)).erase (cB2 d L)) fun g => semVal g 0) := by
  unfold SparseCore.Cfg.ownSems0
  rw [SparseCore.bigSep_erase' ((mem_ownCells (g := cA2 d L)).mpr ⟨rfl, by
      show (SemLoc.dma cc2_scoped0.sem : SemLoc sig).isScoped .scVector = true; decide⟩),
    SparseCore.bigSep_erase' (Finset.mem_erase.mpr ⟨by simp [cA2, cC2]; decide, (mem_ownCells (g := cC2 d L)).mpr ⟨rfl, by
      show (SemLoc.dma cc2_scoped1.sem : SemLoc sig).isScoped .scVector = true; decide⟩⟩),
    SparseCore.bigSep_erase' (Finset.mem_erase.mpr ⟨by simp [cC2, cB2]; decide, Finset.mem_erase.mpr ⟨by simp [cA2, cB2]; decide,
      (mem_ownCells (g := cB2 d L)).mpr ⟨rfl, by
      show (SemLoc.dma cc2_scratch3.sem : SemLoc sig).isScoped .scVector = true; decide⟩⟩⟩)]

/-- The three scratch buffers are among the subcore's own: they are them, at some contents, and the rest. -/
theorem ownBufs_V2 :
    (ownBufs (thr2 d L) : sProp 𝕄)
      = iprop((∃ f, (thr2 d L).loc cc2_scratch0 ↦{fullShare} f) ∗ (∃ f, (thr2 d L).loc cc2_scratch1 ↦{fullShare} f)
          ∗ (∃ f, (thr2 d L).loc cc2_scratch2 ↦{fullShare} f)
          ∗ bigSep ((((ownRefs (τ := τ) (thr2 d L).2).erase ((thr2 d L).2.devRef cc2_scratch0)).erase
              ((thr2 d L).2.devRef cc2_scratch1)).erase ((thr2 d L).2.devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := (thr2 d L).2)
    (b := (thr2 d L).2.devRef cc2_scratch0) rfl)).trans ?_
  rw [SparseCore.bigSep_erase' (Finset.mem_erase.mpr ⟨fun e => absurd (Proc.devRef_injective _ e) (show (cc2_scratch1 : Ref sig .scVector) ≠ cc2_scratch0 by decide),
      SparseCore.Cfg.mem_ownRefs_of_owner (p := (thr2 d L).2) (b := (thr2 d L).2.devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
      SparseCore.Cfg.mem_ownRefs_of_owner (p := (thr2 d L).2) (b := (thr2 d L).2.devRef cc2_scratch2) rfl⟩⟩)]

/-- What a task gets: its shares of the queries and of the windowed bits, its 1024 rows of the result. -/
abbrev in2 : sProp 𝕄 :=
  iprop(((qV).view.loc (thr2 d L) ↦{qq} vq) ∗ ((wV).view.loc (thr2 d L) ↦{qw} vw)
    ∗ ((rV).view.loc (thr2 d L) ↦[rowsAt d L (row2 L) 1024]{fullShare} f0))
/-- What it brings back: the same, its rows at the looked-up bits. -/
abbrev out2 : sProp 𝕄 :=
  iprop(((qV).view.loc (thr2 d L) ↦{qq} vq) ∗ ((wV).view.loc (thr2 d L) ↦{qw} vw)
    ∗ ((rV).view.loc (thr2 d L) ↦[rowsAt d L (row2 L) 1024]{fullShare} found d L vq vw))

theorem rowsAt_zero (lo : ℕ) : rowsAt d L lo 0 = ∅ :=
  Finset.eq_empty_of_forall_notMem fun x hx => by rw [mem_rowsAt] at hx; omega

set_option maxHeartbeats 4000000 in
set_option maxRecDepth 65536 in
theorem body2 (hF : (K (F := F)).Facts) (O : CellTallies nD τ sig (HIx 2)) (W : Waits sig (HIx 2)) (hO : ∀ g, O g none = 0) :
    iprop(levAts (K (F := F)).L (K (F := F)).lev ∗ in2 d L vq vw f0 qq qw
        ∗ scopedBufs (thr2 d L) ∗ scopedSems0 (thr2 d L) ∗ owes (thr2 d L) O W)
      ⊢ wp frame (wpE (defs₀ (F := F)) 𝒱₀ (thr2 d L) none) Set.univ
          (cc2__gather_body L qV (Memref.isWhole_whole _) wV (Memref.isWhole_whole _) rV (Memref.isWhole_whole _)
            yV (Memref.isWhole_whole _) gV (Memref.isWhole_whole _) zV (Memref.isWhole_whole _) cc2_scratch3 cc2_scoped0 cc2_scoped1)
          fun _ => iprop(out2 d L vq vw qq qw
            ∗ scopedBufs (thr2 d L) ∗ scopedSems0 (thr2 d L)
            ∗ ∃ W', ⌜∀ p ∈ W', p ∈ W ∨ p.2 = none⌝ ∗ owes (thr2 d L) O W') := by
  simp only [cc2__gather_body_eq_skeleton]; unfold cc2__gather_body_skel
  rw [(K (F := F)).scopedBufs_V hF d _ _, SparseCore.Cfg.scopedSems0_V (Val := Elt F) d _ _, ownSems0_V2, ownBufs_V2]
  iintro ⟨#Hlv, ⟨Ha, Hw, Hr⟩, ⟨Hx, Hh, Hz, Hbufs⟩, ⟨HsA, HsC, HsB, Hsems⟩, HO⟩
  ihave Hmw := (show levAts (K (F := F)).L (K (F := F)).lev ⊢ Transfers.MayWaits (thr2 d L) (default : HIx 2) O from
    (K (F := F)).mayWaits_none (thr := thr2 d L) hO) $$ Hlv
  sl_exec
  sl_for (inv2 d L vq vw f0 qq qw O W) $$ [Hmw Ha Hw Hr Hx Hh Hz HsA HsC HsB HO]
  case region =>
    intro k _
    exact trip2 d L vq vw f0 qq qw O W k _
  · unfold inv2
    isplitl [Hmw]; · iexact Hmw
    isplitl [Ha]; · iexact Ha
    isplitl [Hw]; · iexact Hw
    isplitr
    · rw [show rowsAt d L (row2 L) (8 * 0) = ∅ from rowsAt_zero d L _, pointsTo_empty]; iempintro
    isplitl [Hr]; · iexact Hr
    isplitl [Hx]; · iexact Hx
    isplitl [Hh]; · iexact Hh
    isplitl [Hz]; · iexact Hz
    isplitl [HsA]; · iexact HsA
    isplitl [HsC]; · iexact HsC
    isplitl [HsB]; · iexact HsB
    iexists W; isplitr
    · ipureintro; exact fun p hp => .inl hp
    · iexact HO
  iintro %_ HI
  unfold inv2
  icases HI with ⟨-, Ha, Hw, Hr, -, Hx, Hh, Hz, HsA, HsC, HsB, HO⟩
  sl_exec
  sl_step
  isplitl [Ha Hw Hr]
  · isplitl [Ha]; · iexact Ha
    isplitl [Hw]; · iexact Hw
    iexact Hr
  isplitl [Hx Hh Hz Hbufs]
  · isplitl [Hx]; · iexact Hx
    isplitl [Hh]; · iexact Hh
    isplitl [Hz]; · iexact Hz
    iexact Hbufs
  isplitl [HsA HsC HsB Hsems]
  · isplitl [HsA]; · iexact HsA
    isplitl [HsC]; · iexact HsC
    isplitl [HsB]; · iexact HsB
    iexact Hsems
  iexact HO

end Cert.KernelIdeal.Bloom
-- ==== Proof.KernelIdeal.Tasks.lean ====
/-
  What the two SparseCore calls carry, each vector subcore's obligation, and how each call's operands split over the subcores
  and come back together.
-/
module

public import proofs.«01_k».proof.Proof.KernelIdeal.ScatterBody
public import proofs.«01_k».proof.Proof.KernelIdeal.GatherBody

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ (UU F) ℕ

/-! ## The operands -/

abbrev aLoc (d : Dev nD) : Loc nD τ sig := (T d : Thread nD τ).loc main_v4
abbrev sLoc (d : Dev nD) : Loc nD τ sig := (T d : Thread nD τ).loc main_v7
abbrev qLoc (d : Dev nD) : Loc nD τ sig := (T d : Thread nD τ).loc main_v5
abbrev wLoc (d : Dev nD) : Loc nD τ sig := (T d : Thread nD τ).loc main_v16
abbrev rLoc (d : Dev nD) : Loc nD τ sig := (T d : Thread nD τ).loc main_v17

/-- What the two calls find in their operands, device by device. -/
structure Inp (F : FTy → Type) where
  va : (d : Dev nD) → Buf (Elt F) (aLoc d)
  s0 : (d : Dev nD) → Buf (Elt F) (sLoc d)
  vq : (d : Dev nD) → Buf (Elt F) (qLoc d)
  vw : (d : Dev nD) → Buf (Elt F) (wLoc d)
  f0 : (d : Dev nD) → Buf (Elt F) (rLoc d)

variable (X : Inp F)

/-- Subcore `s` of core `c`, in either call's grid. -/
def co0 (c : Fin (grid0.bound 0)) (s : Fin (grid0.bound 1)) : grid0.Coords :=
  fun | 0 => c | 1 => s | ⟨_ + 2, h⟩ => absurd h (Nat.not_lt.2 (Nat.le_add_left _ _))
def co2 (c : Fin (grid2.bound 0)) (s : Fin (grid2.bound 1)) : grid2.Coords :=
  fun | 0 => c | 1 => s | ⟨_ + 2, h⟩ => absurd h (Nat.not_lt.2 (Nat.le_add_left _ _))

/-- A core's share, and a subcore's. -/
abbrev coreShare (c : Fin 2) : PosShare TreeShare := pieceOf fullShare 2 (by decide) c
abbrev subShare (c : Fin 2) (i : Fin 16) : PosShare TreeShare := pieceOf (coreShare c) 16 (by decide) i

/-- The bits one core's subcores mark. -/
def coreMarks (d : Dev nD) (c : Fin 2) : Finset (Idx (sLoc d)) :=
  Finset.univ.biUnion fun i : Fin 16 => marks d (co0 c i) (X.va d) (row0 (co0 c i)) 256
/-- The bits all of them mark. -/
def allMarks (d : Dev nD) : Finset (Idx (sLoc d)) := Finset.univ.biUnion fun c : Fin 2 => coreMarks X d c

/-- One subcore's rows of the results, and one core's. -/
abbrev subRows (d : Dev nD) (c : Fin 2) (i : Fin 16) : Finset (Idx (rLoc d)) := rowsAt d (co2 c i) (row2 (co2 c i)) 1024
def coreRows (d : Dev nD) (c : Fin 2) : Finset (Idx (rLoc d)) := Finset.univ.biUnion fun i : Fin 16 => subRows d c i

/-- The word gathered for each query. -/
def foundAll (d : Dev nD) : Buf (Elt F) (rLoc d) := fun x => X.vw d (pos (X.vq d x))

/-! ## What the handshakes carry -/

abbrev st0 (d : Dev nD) (c : Fin 2) : sProp 𝕄 :=
  iprop((aLoc d ↦{coreShare c} X.va d) ∗ willBeTo wm (sLoc d) Finset.univ (coreShare c) (X.s0 d) (ones d) ∅)
abbrev dn0 (d : Dev nD) (c : Fin 2) : sProp 𝕄 :=
  iprop((aLoc d ↦{coreShare c} X.va d) ∗ willBeTo wm (sLoc d) Finset.univ (coreShare c) (X.s0 d) (ones d) (coreMarks X d c))
abbrev st1 (d : Dev nD) (c : Fin 2) : sProp 𝕄 :=
  iprop((qLoc d ↦{coreShare c} X.vq d) ∗ (wLoc d ↦{coreShare c} X.vw d) ∗ rLoc d ↦[coreRows d c]{fullShare} X.f0 d)
abbrev dn1 (d : Dev nD) (c : Fin 2) : sProp 𝕄 :=
  iprop((qLoc d ↦{coreShare c} X.vq d) ∗ (wLoc d ↦{coreShare c} X.vw d) ∗ rLoc d ↦[coreRows d c]{fullShare} foundAll X d)
abbrev go0 (d : Dev nD) (c : Fin 2) (i : Fin 16) : sProp 𝕄 := in0 d (co0 c i) (X.va d) (X.s0 d) (subShare c i) (subShare c i)
abbrev td0 (d : Dev nD) (c : Fin 2) (i : Fin 16) : sProp 𝕄 := out0 d (co0 c i) (X.va d) (X.s0 d) (subShare c i) (subShare c i)
abbrev go1 (d : Dev nD) (c : Fin 2) (i : Fin 16) : sProp 𝕄 := in2 d (co2 c i) (X.vq d) (X.vw d) (X.f0 d) (subShare c i) (subShare c i)
abbrev td1 (d : Dev nD) (c : Fin 2) (i : Fin 16) : sProp 𝕄 := out2 d (co2 c i) (X.vq d) (X.vw d) (subShare c i) (subShare c i)

/-- Each call's operands out and back, per core and per subcore; the scatter's tasks also know write mode's invariant. -/
def P : (K (F := F)).Pay (nD := nD) (Val := Elt F) (Name := ℕ) (U := UU F) where
  st := fun q d c => match q with | 0 => st0 X d c | 1 => st1 X d c
  dn := fun q d c => match q with | 0 => dn0 X d c | 1 => dn1 X d c
  go := fun q d c i => match q with | 0 => go0 X d c i | 1 => go1 X d c i
  td := fun q d c i => match q with | 0 => td0 X d c i | 1 => td1 X d c i
  x := fun _ _ => iprop(∃ ι, wmInv wm ι)

instance P_storable : (P X).IsStorable where
  st q d c := match q with
    | 0 => (inferInstance : BI.Storable (upEmb : UEmb _ 𝕄) (st0 X d c))
    | 1 => (inferInstance : BI.Storable (upEmb : UEmb _ 𝕄) (st1 X d c))
  dn q d c := match q with
    | 0 => (inferInstance : BI.Storable (upEmb : UEmb _ 𝕄) (dn0 X d c))
    | 1 => (inferInstance : BI.Storable (upEmb : UEmb _ 𝕄) (dn1 X d c))
  go q d c i := match q with
    | 0 => (inferInstance : BI.Storable (upEmb : UEmb _ 𝕄) (go0 X d c i))
    | 1 => (inferInstance : BI.Storable (upEmb : UEmb _ 𝕄) (go1 X d c i))
  td q d c i := match q with
    | 0 => (inferInstance : BI.Storable (upEmb : UEmb _ 𝕄) (td0 X d c i))
    | 1 => (inferInstance : BI.Storable (upEmb : UEmb _ 𝕄) (td1 X d c i))

/-! ## The obligations -/

theorem defs₀_scatter (c : Fin τ.nSC) (s : Fin τ.nSub) :
    defs₀ (F := F) (.scVector c s) 0 ()
      = SparseCore.onTile hcore0 hsub0 (fun c s => cc0__scatter_body (co0 c s)
          (Memref.whole main_v4_scv) (Memref.isWhole_whole _) (Memref.whole main_v7_scv) (Memref.isWhole_whole _)
          (Memref.whole main_v7_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scoped0) ⟨⟩ c s := rfl

theorem defs₀_gather (c : Fin τ.nSC) (s : Fin τ.nSub) :
    defs₀ (F := F) (.scVector c s) 2 ()
      = SparseCore.onTile hcore2 hsub2 (fun c s => cc2__gather_body (co2 c s)
          (Memref.whole main_v5_scv) (Memref.isWhole_whole _) (Memref.whole main_v16_scv) (Memref.isWhole_whole _)
          (Memref.whole main_v17_scv) (Memref.isWhole_whole _)
          (Memref.whole cc2_scratch0) (Memref.isWhole_whole _) (Memref.whole cc2_scratch1) (Memref.isWhole_whole _)
          (Memref.whole cc2_scratch2) (Memref.isWhole_whole _) cc2_scratch3 cc2_scoped0 cc2_scoped1) ⟨⟩ c s := rfl

/-- A task's waits are its own: what it hands back at index `none` the call takes. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_scatter]; simp only [SparseCore.onTile, hci, and_self, ↓reduceDIte]
  exact (body0 d (co0 ⟨_, hci.1⟩ ⟨_, hci.2⟩) (X.va d) (X.s0 d) (subShare c i) (subShare c i) facts O W hO).trans
    (wp_mono frame _ _ fun _ => obl_post)

theorem drop_second {A B C : sProp 𝕄} : iprop(A ∗ B ∗ C) ⊢ iprop(A ∗ C) := by
  iintro ⟨HA, -, HC⟩
  isplitl [HA]; · iexact HA
  iexact HC

set_option maxRecDepth 16384 in
theorem tileObl1 : (K (F := F)).TileObl (D (F := F)) 𝒱 (P X) v₀ 1 := by
  intro d c i O W hO _ _
  simp only [show (P X).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  refine BI.Entails.trans drop_second ?_
  exact ((body2 d (co2 ⟨_, hci.1⟩ ⟨_, hci.2⟩) (X.vq d) (X.vw d) (X.f0 d) (subShare c i) (subShare c i) facts O W hO).trans
      (wp_mono frame _ _ fun _ => obl_post))

/-! ## The operands split over a core's subcores and join again -/

/-- A read share and a write-mode share, cut together and joined together. -/
theorem shares_split {ℓ ℓ' : Loc nD τ sig} (fa : Buf (Elt F) ℓ) (f : Buf (Elt F) ℓ') (g : Tgt (Elt F) ℓ') {o : ℕ} (ho : 0 < o) (q : PosShare TreeShare) :
    (iprop((ℓ ↦{q} fa) ∗ willBeTo wm ℓ' Finset.univ q f g ∅) : sProp 𝕄)
      ⊢ bigSep Finset.univ fun k : Fin o => iprop((ℓ ↦{pieceOf q o ho k} fa) ∗ willBeTo wm ℓ' Finset.univ (pieceOf q o ho k) f g ∅) :=
  (BI.sep_mono (Entails.of_eq (pointsTo_piecesOf Finset.univ fa ho q)) (_root_.Bloom.willBeTo_piecesOf ∅ ho q)).trans
    (Entails.of_eq (BI.bigSep_sep' _ _ _).symm)

theorem shares_join {ℓ ℓ' : Loc nD τ sig} (fa : Buf (Elt F) ℓ) (f : Buf (Elt F) ℓ') (g : Tgt (Elt F) ℓ') {o : ℕ} (ho : 0 < o) (q : PosShare TreeShare)
    (M : Fin o → Finset (Idx ℓ')) :
    (bigSep Finset.univ fun k : Fin o => (iprop((ℓ ↦{pieceOf q o ho k} fa) ∗ willBeTo wm ℓ' Finset.univ (pieceOf q o ho k) f g (M k)) : sProp 𝕄))
      ⊢ iprop((ℓ ↦{q} fa) ∗ willBeTo wm ℓ' Finset.univ q f g (Finset.univ.biUnion M)) :=
  (Entails.of_eq (BI.bigSep_sep' _ _ _)).trans
    (BI.sep_mono (Entails.of_eq (pointsTo_piecesOf Finset.univ fa ho q).symm) (_root_.Bloom.willBeTo_joinOf ho q M))

theorem vecSplit0 : (K (F := F)).VecSplit' (P X) 0 := by
  intro d c
  have h1 : st0 X d c ⊢ bigSep Finset.univ fun i : Fin 16 => go0 X d c i :=
    shares_split (X.va d) (X.s0 d) (ones d) (by decide : 0 < 16) (coreShare c)
  have h2 : (bigSep Finset.univ fun i : Fin 16 => td0 X d c i) ⊢ dn0 X d c :=
    shares_join (X.va d) (X.s0 d) (ones d) (by decide : 0 < 16) (coreShare c) fun i => marks d (co0 c i) (X.va d) (row0 (co0 c i)) 256
  show st0 X d c ⊢ |={Set.univ}=> iprop((bigSep Finset.univ fun i : Fin 16 => go0 X d c i)
      ∗ ((bigSep Finset.univ fun i : Fin 16 => td0 X d c i) -∗ dn0 X d c))
  iintro H
  imodintro
  isplitl [H]
  · iapply h1; iexact H
  iintro H
  iapply h2; iexact H

/-- The subcores' rows do not overlap, nor do the cores'. -/
theorem subRows_disjoint (d : Dev nD) (c : Fin 2) : ∀ i ∈ (Finset.univ : Finset (Fin 16)), ∀ j ∈ (Finset.univ : Finset (Fin 16)), i ≠ j →
    Disjoint (subRows d c i) (subRows d c j) := fun i _ j _ h => Finset.disjoint_left.mpr fun x hx hy => by
  rw [mem_rowsAt] at hx hy
  have e : ∀ i : Fin 16, row2 (co2 c i) = (i.val * 2 + c.val) * 1024 := fun _ => rfl
  rw [e] at hx hy
  have := Fin.val_ne_of_ne h
  omega

theorem mem_coreRows (d : Dev nD) (c : Fin 2) (x : S32768x128.Idx) : x ∈ coreRows d c ↔ (x 0).val / 1024 % 2 = c.val := by
  have e : ∀ i : Fin 16, row2 (co2 c i) = (i.val * 2 + c.val) * 1024 := fun _ => rfl
  have hx : (x 0).val < 32768 := (x 0).isLt
  unfold coreRows; rw [Finset.mem_biUnion]
  constructor
  · rintro ⟨i, -, h⟩
    rw [mem_rowsAt, e] at h
    have := i.isLt; have := c.isLt
    omega
  · intro h
    refine ⟨⟨(x 0).val / 2048, by omega⟩, Finset.mem_univ _, ?_⟩
    rw [mem_rowsAt, e]
    show ((x 0).val / 2048 * 2 + c.val) * 1024 ≤ (x 0).val ∧ (x 0).val < ((x 0).val / 2048 * 2 + c.val) * 1024 + 1024
    omega

theorem coreRows_disjoint (d : Dev nD) : ∀ c ∈ (Finset.univ : Finset (Fin 2)), ∀ c' ∈ (Finset.univ : Finset (Fin 2)), c ≠ c' →
    Disjoint (coreRows d c) (coreRows d c') := fun c _ c' _ h => Finset.disjoint_left.mpr fun x hx hy => by
  rw [mem_coreRows] at hx hy
  exact h (Fin.ext (hx.symm.trans hy))

theorem coreRows_cover (d : Dev nD) : (Finset.univ : Finset (Fin 2)).biUnion (coreRows d) = Finset.univ := by
  refine Finset.eq_univ_of_forall fun x => Finset.mem_biUnion.mpr ⟨⟨((x : S32768x128.Idx) 0).val / 1024 % 2, Nat.mod_lt _ (by decide)⟩, Finset.mem_univ _, ?_⟩
  exact (mem_coreRows d _ x).mpr rfl

theorem rows_split (d : Dev nD) (c : Fin 2) (f : Buf (Elt F) (rLoc d)) :
    (rLoc d ↦[coreRows d c]{fullShare} f : sProp 𝕄) = bigSep Finset.univ fun i : Fin 16 => rLoc d ↦[subRows d c i]{fullShare} f :=
  pointsTo_biUnion Finset.univ (ℓ := rLoc d) (subRows d c) (subRows_disjoint d c)

theorem cores_split (d : Dev nD) (f : Buf (Elt F) (rLoc d)) :
    (rLoc d ↦{fullShare} f : sProp 𝕄) = bigSep Finset.univ fun c : Fin 2 => rLoc d ↦[coreRows d c]{fullShare} f := by
  rw [← pointsTo_biUnion Finset.univ (ℓ := rLoc d) (coreRows d) (coreRows_disjoint d), coreRows_cover]

theorem vecSplit1 : (K (F := F)).VecSplit' (P X) 1 := by
  intro d c
  show st1 X d c ⊢ |={Set.univ}=> iprop((bigSep Finset.univ fun i : Fin 16 => go1 X d c i)
      ∗ ((bigSep Finset.univ fun i : Fin 16 => td1 X d c i) -∗ dn1 X d c))
  have e : ∀ f : Buf (Elt F) (rLoc d), (iprop((qLoc d ↦{coreShare c} X.vq d) ∗ (wLoc d ↦{coreShare c} X.vw d) ∗ rLoc d ↦[coreRows d c]{fullShare} f) : sProp 𝕄)
      = bigSep Finset.univ fun i : Fin 16 => iprop((qLoc d ↦{subShare c i} X.vq d) ∗ (wLoc d ↦{subShare c i} X.vw d) ∗ rLoc d ↦[subRows d c i]{fullShare} f) := by
    intro f
    rw [BI.bigSep_sep', BI.bigSep_sep', rows_split d c f,
      pointsTo_piecesOf (Finset.univ : Finset (Idx (qLoc d))) (X.vq d) (o := 16) (by decide) (coreShare c),
      pointsTo_piecesOf (Finset.univ : Finset (Idx (wLoc d))) (X.vw d) (o := 16) (by decide) (coreShare c)]
  iintro H
  imodintro
  isplitl [H]
  · iapply (Entails.of_eq (e (X.f0 d))); iexact H
  iintro H
  iapply (Entails.of_eq (e (foundAll X d)).symm); iexact H

/-! ## The operands split over the two cores and join again -/

theorem st0_cores (d : Dev nD) :
    (iprop((aLoc d ↦{fullShare} X.va d) ∗ willBeTo wm (sLoc d) Finset.univ fullShare (X.s0 d) (ones d) ∅) : sProp 𝕄)
      ⊢ bigSep Finset.univ fun c : Fin ((K (F := F)).nCore 0) => (P X).st 0 d c :=
  shares_split (X.va d) (X.s0 d) (ones d) (by decide : 0 < 2) fullShare

theorem dn0_cores (d : Dev nD) :
    (bigSep Finset.univ fun c : Fin ((K (F := F)).nCore 0) => (P X).dn 0 d c : sProp 𝕄)
      ⊢ iprop((aLoc d ↦{fullShare} X.va d) ∗ willBeTo wm (sLoc d) Finset.univ fullShare (X.s0 d) (ones d) (allMarks X d)) :=
  shares_join (X.va d) (X.s0 d) (ones d) (by decide : 0 < 2) fullShare fun c => coreMarks X d c

theorem cores1 (d : Dev nD) (f : Buf (Elt F) (rLoc d)) :
    (iprop((qLoc d ↦{fullShare} X.vq d) ∗ (wLoc d ↦{fullShare} X.vw d) ∗ rLoc d ↦{fullShare} f) : sProp 𝕄)
      = bigSep Finset.univ fun c : Fin 2 => iprop((qLoc d ↦{coreShare c} X.vq d) ∗ (wLoc d ↦{coreShare c} X.vw d) ∗ rLoc d ↦[coreRows d c]{fullShare} f) := by
  rw [BI.bigSep_sep', BI.bigSep_sep', cores_split d f,
    pointsTo_piecesOf (Finset.univ : Finset (Idx (qLoc d))) (X.vq d) (o := 2) (by decide) fullShare,
    pointsTo_piecesOf (Finset.univ : Finset (Idx (wLoc d))) (X.vw d) (o := 2) (by decide) fullShare]

theorem st1_cores (d : Dev nD) :
    (bigSep Finset.univ fun c : Fin ((K (F := F)).nCore 1) => (P X).st 1 d c : sProp 𝕄)
      = iprop((qLoc d ↦{fullShare} X.vq d) ∗ (wLoc d ↦{fullShare} X.vw d) ∗ rLoc d ↦{fullShare} X.f0 d) := (cores1 X d (X.f0 d)).symm

theorem dn1_cores (d : Dev nD) :
    (bigSep Finset.univ fun c : Fin ((K (F := F)).nCore 1) => (P X).dn 1 d c : sProp 𝕄)
      = iprop((qLoc d ↦{fullShare} X.vq d) ∗ (wLoc d ↦{fullShare} X.vw d) ∗ rLoc d ↦{fullShare} foundAll X d) := (cores1 X d (foundAll X d)).symm

end Cert.KernelIdeal.Bloom
-- ==== Proof.KernelIdeal.Window.lean ====
/-
  The TensorCore call between the two SparseCore calls: over 32 blocks of 512 rows it turns the marks into the windowed
  table. What its arrays hold at each point, its body, and its region as @main enters and leaves it.
-/
module

public import proofs.«01_k».proof.Proof.KernelIdeal.Common
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody
public import Idealize.ShloMosaic.Lib.Pipeline.Value

@[expose] public section

noncomputable section

namespace Cert.KernelIdeal.Bloom

open Cert.KernelIdeal Cert.KernelIdeal.Gen
open Idealize.ShloMosaic
open Idealize.ShloMosaic.SparseCore (S V T)
open Idealize.ShloMosaic.SparseCore.Cfg (HIx)
open Idealize.ShloMosaic.Pipeline (Dat BodyObligationLoose RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-! ## The body -/

/-- One grid point's body leaves its three inputs and puts the window of them in the output block. -/
theorem windowBody (d : Dev nD) (i : grid1.Coords)
    (m1 : Memref sig .tc .vmem S512x1024 .i32) (h1 : m1.IsWhole) (m2 : Memref sig .tc .vmem S1x1x1024 .i32) (h2 : m2.IsWhole)
    (m3 : Memref sig .tc .vmem S1x1x1024 .i32) (h3 : m3.IsWhole) (m4 : Memref sig .tc .vmem S512x1024 .i32) (h4 : m4.IsWhole)
    (x1 : Vec F S512x1024 .i32) (x2 x3 : Vec F S1x1x1024 .i32) (x4 : Vec F S512x1024 .i32) :
    iprop(owns (T d) m1 fullShare x1 ∗ owns (T d) m2 fullShare x2 ∗ owns (T d) m3 fullShare x3 ∗ owns (T d) m4 fullShare x4 : sProp 𝕄)
      ⊢ wp frame (wpE (defs₀ (F := F)) 𝒱₀ (T d) none) Set.univ (cc1__window_body i m1 h1 m2 h2 m3 h3 m4 h4) fun _ =>
        iprop(owns (T d) m1 fullShare x1 ∗ owns (T d) m2 fullShare x2 ∗ owns (T d) m3 fullShare x3 ∗ owns (T d) m4 fullShare (k1_pay1 x1 x2 x3)) := by
  rw [cc1__window_body_eq_skeleton]
  unfold cc1__window_body_skel owns
  iintro ⟨⟨%f1, %e1, H1⟩, ⟨%f2, %e2, H2⟩, ⟨%f3, %e3, H3⟩, ⟨%f4, %e4, H4⟩⟩
  subst e1 e2 e3 e4
  sl_exec
  rw [wp_ret]
  imodintro
  have z2 : (![0, 0] : Fin S512x1024.rank → Nat) = fun _ => 0 := by funext a; fin_cases a <;> rfl
  have z3 : (![0, 0, 0] : Fin S1x1x1024.rank → Nat) = fun _ => 0 := by funext a; fin_cases a <;> rfl
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (fun y => ⟨_, List.mem_singleton_self _, View.mem_set_unit_zero z2 inb_S512x1024_S512x1024_0_0 y⟩), View.canon_unit_zero z2]
  congr 1
  · exact View.ld_unit_zero z2 inb_S512x1024_S512x1024_0_0 (m1.view.read (Elt F) f1)
  · exact View.ld_unit_zero z3 inb_S1x1x1024_S1x1x1024_0_0_0 (m2.view.read (Elt F) f2)
  · exact View.ld_unit_zero z3 inb_S1x1x1024_S1x1x1024_0_0_0 (m3.view.read (Elt F) f3)

/-! ## What the windows hold -/

abbrev adm : (p : Fin 1) → (pcfgs (F := F) p).Adm := fun p => (cfgs p).toPCfg_adm

/-- The three input blocks at a point, read off the arrays. -/
def blkA (W : Valuation τ sig (Elt F)) (t : Fin cfg1.N) : Vec F S512x1024 .i32 :=
  ((cfg1.win 0).blk t).view.read (Elt F) (W (Proc.devRef .tc main_v8))
def blkB (W : Valuation τ sig (Elt F)) (t : Fin cfg1.N) : Vec F S1x1x1024 .i32 :=
  ((cfg1.win 1).blk t).view.read (Elt F) (W (Proc.devRef .tc main_v11))
def blkC (W : Valuation τ sig (Elt F)) (t : Fin cfg1.N) : Vec F S1x1x1024 .i32 :=
  ((cfg1.win 2).blk t).view.read (Elt F) (W (Proc.devRef .tc main_v14))

/-- The output block at a point. -/
def blkO (W : Valuation τ sig (Elt F)) (t : Fin cfg1.N) : Vec F S512x1024 .i32 := k1_pay1 (blkA W t) (blkB W t) (blkC W t)

/-- The call's data on one device: the arrays as `W` has them, the units still owed, the waits recorded so far. -/
def wdat (W : Dev nD → Valuation τ sig (Elt F)) (O : Dev nD → CellTallies nD τ sig (HIx 2)) (B : Dev nD → Set (SemLoc sig × HIx 2)) (p : Fin 1) (c : Dev nD) :
    Dat τ (Elt F) (HIx 2) ℕ (UU F) ℕ (Pipeline.pin pcfgs (adm (F := F)) p) c where
  A w := W c (Proc.devRef .tc (Pipeline.arrRef spec1 w))
  after w t := match w with
    | 0 => blkA (W c) t
    | 1 => blkB (W c) t
    | 2 => blkC (W c) t
    | 3 => blkO (W c) t
  Φ _ := iprop(emp)
  q _ := fullShare
  owed _ := O c
  recorded _ := B c

section Body
variable (W : Dev nD → Valuation τ sig (Elt F)) (O : Dev nD → CellTallies nD τ sig (HIx 2)) (B : Dev nD → Set (SemLoc sig × HIx 2))

theorem before0 (c : Dev nD) (t : Fin cfg1.N) (d) : (wdat W O B 0 c).before 0 t d = blkA (W c) t :=
  (wdat W O B 0 c).before_in_eq_fetched 0 rfl (fun _ => rfl) (fun _ _ _ => rfl) (fun _ => rfl) t d
theorem before1 (c : Dev nD) (t : Fin cfg1.N) (d) : (wdat W O B 0 c).before 1 t d = blkB (W c) t :=
  (wdat W O B 0 c).before_in_eq_fetched 1 rfl (fun _ => rfl) (fun _ _ _ => rfl) (fun _ => rfl) t d
theorem before2 (c : Dev nD) (t : Fin cfg1.N) (d) : (wdat W O B 0 c).before 2 t d = blkC (W c) t :=
  (wdat W O B 0 c).before_in_eq_fetched 2 rfl (fun _ => rfl) (fun _ _ _ => rfl) (fun _ => rfl) t d

theorem windowObl (c : Dev nD) : BodyObligationLoose (wdat W O B 0 c) defs₀ 𝒱₀ (none : HIx 2) Set.univ := by
  intro t
  show iprop((emp : sProp 𝕄) ∗ (wdat W O B 0 c).owesAt none t.castSucc ∗ bigSep Finset.univ fun w : Fin 4 =>
      iprop(∃ d, owns (T c) ((cfg1.win w).stage (cfg1.slots t w)) fullShare ((wdat W O B 0 c).before w t d)))
    ⊢ wp frame (wpE (defs₀ (F := F)) 𝒱₀ (T c) none) Set.univ (bodyAt1 t) fun _ =>
      iprop((emp : sProp 𝕄) ∗ (wdat W O B 0 c).owesAt none t.succ ∗ bigSep Finset.univ fun w : Fin 4 =>
        owns (T c) ((cfg1.win w).stage (cfg1.slots t w)) fullShare ((wdat W O B 0 c).after w t))
  rw [bigSep_W1, bigSep_W1]
  iintro ⟨-, HO, ⟨%d0, H0⟩, ⟨%d1, H1⟩, ⟨%d2, H2⟩, ⟨%d3, H3⟩⟩
  ihave H := windowBody c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (blkA (W c) t) (blkB (W c) t) (blkC (W c) t)
    ((wdat W O B 0 c).before 3 t d3) $$ [H0 H1 H2 H3]
  · isplitl [H0]; · rw [← before0 W O B c t d0]; iexact H0
    isplitl [H1]; · rw [← before1 W O B c t d1]; iexact H1
    isplitl [H2]; · rw [← before2 W O B c t d2]; iexact H2
    iexact H3
  iapply (wp_wand (Fr := frame)) $$ H
  iintro %_ ⟨H0, H1, H2, H3⟩
  isplitr; · iempintro
  isplitl [HO]; · iexact HO
  isplitl [H0]; · iexact H0
  isplitl [H1]; · iexact H1
  isplitl [H2]; · iexact H2
  iexact H3

/-! ## What the call leaves in its result -/

theorem coord1 : ∀ t : Fin cfg1.N, ((cfg1.grid.coords t) 0).val = t.val := by decide

/-- The grid point whose block holds an index of the result. -/
def ptOf (x : S16384x1024.Idx) : Fin cfg1.N := ⟨(x 0).val / 512, by have h : (x 0).val < 16384 := (x 0).isLt; show _ < grid1.N; rw [N_1]; omega⟩
/-- Its place inside that block. -/
def inBlk (x : S16384x1024.Idx) : S512x1024.Idx := fun a => match a with
  | 0 => ⟨(x 0).val % 512, Nat.mod_lt _ (by decide)⟩
  | 1 => ⟨(x 1).val, (x 1).isLt⟩

/-- The result: block by block, the window of the block's inputs. -/
def wout (W : Valuation τ sig (Elt F)) : S16384x1024.Idx → BitVec 32 := fun x => blkO W (ptOf x) (inBlk x)

theorem blkO_emb (t : Fin cfg1.N) (y : S512x1024.Idx) :
    ((((cfg1.win 3).blk t).view.emb y : S16384x1024.Idx) 0).val = t.val * 512 + (y 0).val
      ∧ ((((cfg1.win 3).blk t).view.emb y : S16384x1024.Idx) 1).val = (y 1).val := by
  have ht : t.val < 32 := lt_of_lt_of_eq t.isLt N_1
  constructor
  · refine (Pipeline.Window.rect_emb_val win1_3 t y 0).trans ?_
    show (BitVec.ofNat 32 ((cfg1.grid.coords t) 0).val).toNat * 512 + (y 0).val = _
    rw [coord1, BitVec.toNat_ofNat, Nat.mod_eq_of_lt (by omega)]
  · refine (Pipeline.Window.rect_emb_val win1_3 t y 1).trans ?_
    show 0 * 1024 + (y 1).val = _
    omega

theorem arrAt_out (c : Dev nD) : (wdat W O B 0 c).arrAt 3 cfg1.N = wout (W c) := by
  refine (wdat W O B 0 c).arrAt_eq_of_cover 3 (wout (W c)) (fun t _ => ?_) (fun i => ?_)
  · have key : ∀ y : S512x1024.Idx, blkO (W c) t y = wout (W c) (((cfg1.win 3).blk t).view.emb y) := by
      intro y
      obtain ⟨e0, e1⟩ := blkO_emb t y
      have hy : (y 0).val < 512 := (y 0).isLt
      unfold wout
      have h1 : ptOf (((cfg1.win 3).blk t).view.emb y) = t := Fin.ext (show _ / 512 = _ by rw [e0]; omega)
      have h2 : inBlk (((cfg1.win 3).blk t).view.emb y) = y := by
        funext a
        match a with
        | 0 => exact Fin.ext (show _ % 512 = _ by rw [e0]; omega)
        | 1 => exact Fin.ext e1
      rw [h1, h2]
    funext y
    exact key y
  · revert i
    show ∀ i : S16384x1024.Idx, _
    intro i
    refine ⟨ptOf i, flush1_3 _, ?_⟩
    have he : ((cfg1.win 3).blk (ptOf i)).view.emb (inBlk i) = i := by
      obtain ⟨e0, e1⟩ := blkO_emb (ptOf i) (inBlk i)
      funext a
      match a with
      | 0 => exact Fin.ext (e0.trans (Nat.div_add_mod' (i 0).val 512))
      | 1 => exact Fin.ext e1
    have hm : ((cfg1.win 3).blk (ptOf i)).view.emb (inBlk i) ∈ ((cfg1.win 3).blk (ptOf i)).view.set :=
      Finset.mem_map_of_mem _ (Finset.mem_univ _)
    rw [he] at hm
    exact hm

end Body

/-! ## The region -/

/-- The TensorCore's units owed at the second SparseCore call are all at that call's stage. -/
theorem owed_none (c : Dev nD) (n : ℕ) (g : GSem nD τ sig) : (K (F := F)).Otc (N := 2) c n g none = 0 := by
  unfold SparseCore.Cfg.Otc
  refine Finset.sum_induction _ (fun O : CellTallies nD τ sig (HIx 2) => O g none = 0) (fun a b ha hb => ?_) rfl fun q _ => ?_
  · show a g none + b g none = 0
    rw [ha, hb]
  split
  · refine Finset.sum_induction _ (fun O : CellTallies nD τ sig (HIx 2) => O g none = 0) (fun a b ha hb => ?_) rfl fun i _ => ?_
    · show a g none + b g none = 0
      rw [ha, hb]
    rw [tallyAt_apply, if_neg (fun h => nomatch h.2)]
  · rfl

/-- The waits recorded so far stay at or below level `b`. -/
def below (b : ℕ) (c : Dev nD) : Set (SemLoc sig × HIx 2) := {p | (K (F := F)).lev (T c, p.1) p.2 ≤ b}

/-- What the devices' arrays hold after the call. -/
def afterWindow (W : Dev nD → Valuation τ sig (Elt F)) (c : Dev nD) : Valuation τ sig (Elt F) :=
  Function.update (W c) (Proc.devRef .tc main_v15) (wout (W c))

theorem afterWindow_at (W : Dev nD → Valuation τ sig (Elt F)) (O : Dev nD → CellTallies nD τ sig (HIx 2)) (B : Dev nD → Set (SemLoc sig × HIx 2))
    (c : Dev nD) : ∀ w : Fin 4, (wdat W O B 0 c).arrAt w cfg1.N = afterWindow W c (Proc.devRef .tc (Pipeline.arrRef spec1 w))
  | 0 => ((wdat W O B 0 c).arrAt_in 0 rfl _).trans (Function.update_of_ne (show Proc.devRef .tc main_v8 ≠ Proc.devRef (τ := τ) .tc main_v15 by decide) _ _).symm
  | 1 => ((wdat W O B 0 c).arrAt_in 1 rfl _).trans (Function.update_of_ne (show Proc.devRef .tc main_v11 ≠ Proc.devRef (τ := τ) .tc main_v15 by decide) _ _).symm
  | 2 => ((wdat W O B 0 c).arrAt_in 2 rfl _).trans (Function.update_of_ne (show Proc.devRef .tc main_v14 ≠ Proc.devRef (τ := τ) .tc main_v15 by decide) _ _).symm
  | 3 => (arrAt_out W O B c).trans (by
      show wout (W c) = Function.update (W c) (Proc.devRef .tc main_v15) (wout (W c)) (Proc.devRef .tc main_v15)
      rw [Function.update_self])

theorem wshare (W : Dev nD → Valuation τ sig (Elt F)) (O : Dev nD → CellTallies nD τ sig (HIx 2)) (B : Dev nD → Set (SemLoc sig × HIx 2))
    (c : Dev nD) : ∀ w : Fin 4, (wdat W O B 0 c).share w = fullShare := by
  intro w; unfold Pipeline.Dat.share; split <;> rfl

theorem held_arrays (W : Dev nD → Valuation τ sig (Elt F)) (O : Dev nD → CellTallies nD τ sig (HIx 2)) (B : Dev nD → Set (SemLoc sig × HIx 2))
    (c : Dev nD) (G : (w : Fin 4) → Buf (Elt F) ((cfg1.win w).arr.view.loc (T c))) (Wc : Valuation τ sig (Elt F))
    (hG : ∀ w, G w = Wc (Proc.devRef .tc (Pipeline.arrRef spec1 w))) :
    ((wdat W O B 0 c).arrays G : sProp 𝕄) = StableHlo.held (T c) (Pipeline.arrRefs spec1) Wc :=
  Pipeline.arrays_held pcfgs adm (wdat W O B) 0 (launch1.toP (Val := Elt F)) c (wshare W O B c) G Wc hG

theorem ent_of_eq {A B : sProp 𝕄} (h : A = B) : A ⊢ B := by subst h; exact .rfl

/-- The call, entered with its arrays at `W` and left with them at `afterWindow W`. -/
def windowRegion (W : Dev nD → Valuation τ sig (Elt F)) (b : ℕ) :
    RegionSeg pcfgs adm (wdat W (fun c => (K (F := F)).Otc c 1) (below (F := F) b)) (none : HIx 2) defs₀ 𝒱₀ (K (F := F)).L (K (F := F)).lev 0 where
  win := (launch1.toP (Val := Elt F)).win.to₀
  block_pos := block_pos1
  stage_whole := stage_whole1
  K := PEmpty
  osem k := k.elim
  ho := Pipeline.OwnSemFacts.none _
  hbody c := windowObl W _ _ c
  hwaits c := Pipeline.cellsWaits_intro (Pipeline.pin pcfgs adm) _ none 0 c fun w s t => (K (F := F)).mayWait_none _ (owed_none c 1)
  pre c := iprop(StableHlo.held (T c) (Pipeline.arrRefs spec1) (W c) ∗ ∃ R, ⌜(K (F := F)).WBelow (T c) R b⌝ ∗ owes (T c) ((K (F := F)).Otc c 1) R)
  post c := iprop(StableHlo.held (T c) (Pipeline.arrRefs spec1) (afterWindow W c) ∗ ∃ R, ⌜(K (F := F)).WBelow (T c) R b⌝ ∗ owes (T c) ((K (F := F)).Otc c 1) R)
  X _ := iprop(emp)
  Y _ := iprop(emp)
  Z _ := iprop(emp)
  hentry c := by
    rw [Pipeline.ownSems0_none, Pipeline.prefHeld_of_none _ rfl]
    iintro ⟨⟨Ha, HO⟩, -, -⟩
    imodintro
    isplitl [Ha]
    · iapply (ent_of_eq (held_arrays W (fun c => (K (F := F)).Otc c 1) (below (F := F) b) c ((wdat W _ _ 0 c).arrAt · 0) (W c) fun _ => rfl).symm)
      iexact Ha
    isplitr; · iempintro
    isplitl [HO]
    · unfold Pipeline.Dat.owesAt Pipeline.owesWithin Pipeline.Dat.bound
      icases HO with ⟨%R, %hR, HO⟩; iexists R; isplitr; · ipureintro; exact fun p hp => Or.inl (hR p hp)
      iexact HO
    isplitl; · iempintro
    iempintro
  hin c := by
    iintro ⟨-, -, Hr⟩
    iempintro
  hout c := by
    rw [Pipeline.ownSems0_none, show (Pipeline.scopedRest (Pipeline.pin (pcfgs (F := F)) adm 0).spec c : sProp 𝕄) = _ from scopedRest1_eq c]
    iintro -
    isplitl; · iempintro
    isplitl; · iempintro
    iempintro
  hexit c := by
    iintro ⟨Ha, HO, -, -⟩
    imodintro
    isplitl [Ha]
    · iapply (ent_of_eq (held_arrays W (fun c => (K (F := F)).Otc c 1) (below (F := F) b) c ((wdat W _ _ 0 c).arrAt · cfg1.N) (afterWindow W c) (afterWindow_at W _ _ c)))
      iexact Ha
    unfold Pipeline.Dat.owesAt Pipeline.owesWithin Pipeline.Dat.bound
    icases HO with ⟨%R, %hR, HO⟩; iexists R; isplitr
    · ipureintro
      intro p hp
      rcases hR hp with h | ⟨w, s, rfl⟩
      · exact h
      · exact Nat.zero_le _
    iexact HO

end Cert.KernelIdeal.Bloom

end
-- ==== Proof.KernelIdeal.Host.lean ====
/-
  @main's straight lines of tensor operations, what every array holds at each of @main's steps, and @main as those lines
  with the three calls between them.
-/
module

public import proofs.«01_k».proof.Proof.KernelIdeal.Tasks
public import proofs.«01_k».proof.Proof.KernelIdeal.Window
public import Idealize.ShloMosaic.Lib.StableHlo.Run

@[expose] public section

noncomputable section

namespace Cert.KernelIdeal.Bloom

open Cert.KernelIdeal Cert.KernelIdeal.Gen
open Idealize.ShloMosaic Idealize.ShloMosaic.StableHlo
open Idealize.ShloMosaic.TcCoe
open Idealize.ShloMosaic.SparseCore (T)
open Idealize.SL.Sem

variable {F : FTy → Type} [FloatOps F]

/-! ## The lines -/

/-- @main's operations up to the scatter. -/
abbrev opsA : List (HloOp τ sig (Elt F)) :=
  [StableHlo.unary main_arg0 main_v0 ((extractStridedSlice S1 ![0] · slices_S1000000_S1_0) : (⟨S1000000, .i32⟩ : BufTy).Contents (Elt F) → (⟨S1, .i32⟩ : BufTy).Contents (Elt F)),
   StableHlo.reshape main_v0 main_v1 (rfl : (.i32 : EltTy) = .i32) shapeCasts_S1_S_,
   StableHlo.unary main_v1 main_v2 (broadcastInDim S48576 ![] bcast_S_S48576 : (⟨S_, .i32⟩ : BufTy).Contents (Elt F) → (⟨S48576, .i32⟩ : BufTy).Contents (Elt F)),
   StableHlo.binary main_arg0 main_v2 main_v3 ((fun a b => concatenate S1048576 0 [⟨S1000000, a⟩, ⟨S48576, b⟩] concatenates_S1000000_S48576_S1048576_d0) : (⟨S1000000, .i32⟩ : BufTy).Contents (Elt F) → (⟨S48576, .i32⟩ : BufTy).Contents (Elt F) → (⟨S1048576, .i32⟩ : BufTy).Contents (Elt F)),
   StableHlo.reshape main_v3 main_v4 (rfl : (.i32 : EltTy) = .i32) shapeCasts_S1048576_S8192x128,
   StableHlo.reshape main_arg1 main_v5 (rfl : (.i32 : EltTy) = .i32) shapeCasts_S4194304_S32768x128,
   StableHlo.nullary main_c (constantI S_ 32 0#32),
   StableHlo.unary main_c main_v6 (broadcastInDim S16777216 ![] bcast_S_S16777216 : (⟨S_, .i32⟩ : BufTy).Contents (Elt F) → (⟨S16777216, .i32⟩ : BufTy).Contents (Elt F)),
   StableHlo.unary main_v6 main_v7 id]

/-- @main's operations from the scatter to the window. -/
abbrev opsB : List (HloOp τ sig (Elt F)) :=
  [StableHlo.reshape main_v7 main_v8 (rfl : (.i32 : EltTy) = .i32) shapeCasts_S16777216_S16384x1024,
   StableHlo.unary main_v8 main_v9 ((Host.slice S32x1024 ![511, 0] ![512, 1] · slicesBy_S16384x1024_S32x1024_511s512_0s1) : (⟨S16384x1024, .i32⟩ : BufTy).Contents (Elt F) → (⟨S32x1024, .i32⟩ : BufTy).Contents (Elt F)),
   StableHlo.TRef.unary (.of main_v9 : TRef sig ⟨S32x1024, .i32⟩) main_call0.v0 (extractStridedSlice S1x1024 ![31, 0] · slices_S32x1024_S1x1024_31_0),
   StableHlo.TRef.unary (.of main_v9 : TRef sig ⟨S32x1024, .i32⟩) main_call0.v1 (extractStridedSlice S31x1024 ![0, 0] · slices_S32x1024_S31x1024_0_0),
   StableHlo.TRef.binary main_call0.v0 main_call0.v1 main_call0.v2 (fun a b => concatenate S32x1024 0 [⟨S1x1024, a⟩, ⟨S31x1024, b⟩] concatenates_S1x1024_S31x1024_S32x1024_d0),
   StableHlo.reshape main_v10 main_v11 (rfl : (.i32 : EltTy) = .i32) shapeCasts_S32x1024_S32x1x1024,
   StableHlo.unary main_v8 main_v12 ((Host.slice S32x1024 ![0, 0] ![512, 1] · slicesBy_S16384x1024_S32x1024_0s512_0s1) : (⟨S16384x1024, .i32⟩ : BufTy).Contents (Elt F) → (⟨S32x1024, .i32⟩ : BufTy).Contents (Elt F)),
   StableHlo.TRef.unary (.of main_v12 : TRef sig ⟨S32x1024, .i32⟩) main_call1.v0 (extractStridedSlice S31x1024 ![1, 0] · slices_S32x1024_S31x1024_1_0),
   StableHlo.TRef.unary (.of main_v12 : TRef sig ⟨S32x1024, .i32⟩) main_call1.v1 (extractStridedSlice S1x1024 ![0, 0] · slices_S32x1024_S1x1024_0_0),
   StableHlo.TRef.binary main_call1.v0 main_call1.v1 main_call1.v2 (fun a b => concatenate S32x1024 0 [⟨S31x1024, a⟩, ⟨S1x1024, b⟩] concatenates_S31x1024_S1x1024_S32x1024_d0),
   StableHlo.reshape main_v13 main_v14 (rfl : (.i32 : EltTy) = .i32) shapeCasts_S32x1024_S32x1x1024]

/-- @main's operations from the window to the gather. -/
abbrev opsC : List (HloOp τ sig (Elt F)) :=
  [StableHlo.reshape main_v15 main_v16 (rfl : (.i32 : EltTy) = .i32) shapeCasts_S16384x1024_S16777216]

/-- @main's operations after the gather. -/
abbrev opsD : List (HloOp τ sig (Elt F)) :=
  [StableHlo.reshape main_v17 main_v18 (rfl : (.i32 : EltTy) = .i32) shapeCasts_S32768x128_S4194304,
   StableHlo.nullary main_c_0 (constantI S_ 32 0#32),
   StableHlo.unary main_c_0 main_v19 (broadcastInDim S4194304 ![] bcast_S_S4194304 : (⟨S_, .i32⟩ : BufTy).Contents (Elt F) → (⟨S4194304, .i32⟩ : BufTy).Contents (Elt F)),
   StableHlo.binary main_v18 main_v19 main_v20 (cmpi .ne : (⟨S4194304, .i32⟩ : BufTy).Contents (Elt F) → (⟨S4194304, .i32⟩ : BufTy).Contents (Elt F) → (⟨S4194304, .i1⟩ : BufTy).Contents (Elt F))]

theorem opsA_sub : (opsA : List (HloOp τ sig (Elt F))).Forall fun op => op.bufs ⊆ tcRefs τ sig :=
  ⟨unary_bufs_sub .., reshape_bufs_sub .., unary_bufs_sub .., binary_bufs_sub .., reshape_bufs_sub .., reshape_bufs_sub .., nullary_bufs_sub .., unary_bufs_sub .., unary_bufs_sub ..⟩
theorem opsB_sub : (opsB : List (HloOp τ sig (Elt F))).Forall fun op => op.bufs ⊆ tcRefs τ sig :=
  ⟨reshape_bufs_sub .., unary_bufs_sub .., unary_bufs_sub .., unary_bufs_sub .., binary_bufs_sub .., reshape_bufs_sub .., unary_bufs_sub .., unary_bufs_sub .., unary_bufs_sub .., binary_bufs_sub .., reshape_bufs_sub ..⟩
theorem opsC_sub : (opsC : List (HloOp τ sig (Elt F))).Forall fun op => op.bufs ⊆ tcRefs τ sig :=
  reshape_bufs_sub ..
theorem opsD_sub : (opsD : List (HloOp τ sig (Elt F))).Forall fun op => op.bufs ⊆ tcRefs τ sig :=
  ⟨reshape_bufs_sub .., nullary_bufs_sub .., unary_bufs_sub .., binary_bufs_sub ..⟩

theorem opsA_fresh : (opsA : List (HloOp τ sig (Elt F))).Forall fun op => op.fresh = ∅ := ⟨rfl, rfl, rfl, rfl, rfl, rfl, rfl, rfl, rfl⟩
theorem opsB_fresh : (opsB : List (HloOp τ sig (Elt F))).Forall fun op => op.fresh = ∅ := ⟨rfl, rfl, rfl, rfl, rfl, rfl, rfl, rfl, rfl, rfl, rfl⟩
theorem opsC_fresh : (opsC : List (HloOp τ sig (Elt F))).Forall fun op => op.fresh = ∅ := rfl
theorem opsD_fresh : (opsD : List (HloOp τ sig (Elt F))).Forall fun op => op.fresh = ∅ := ⟨rfl, rfl, rfl, rfl⟩

set_option maxRecDepth 8192 in
theorem main_eq (d : Dev nD) :
    main (F := F) d = seq opsA >>= fun _ => sc.run d 0 >>= fun _ => seq opsB >>= fun _ =>
      Prog.lift (.customCall (SparseCore.inner (Pipeline.entry 0)) ()) >>= fun _ => seq opsC >>= fun _ => sc.run d 1 >>= fun _ =>
        seq opsD >>= fun _ => pure ⟨⟩ := by
  rfl

/-! ## What the arrays hold -/

variable (m : (ℓ : Loc nD τ sig) → Buf (Elt F) ℓ)

/-- At the launch. -/
def val0 (d : Dev nD) : Valuation τ sig (Elt F) := fun b => m (d, b)
/-- At the scatter. -/
def val1 (d : Dev nD) : Valuation τ sig (Elt F) := after opsA (val0 m d)

/-- The scatter's operands; the gather's are not read there. -/
def inpA : Inp F where
  va d := val1 m d (Proc.devRef .tc main_v4)
  s0 d := val1 m d (Proc.devRef .tc main_v7)
  vq d := val1 m d (Proc.devRef .tc main_v5)
  vw d := val1 m d (Proc.devRef .tc main_v16)
  f0 d := val1 m d (Proc.devRef .tc main_v17)

/-- The bitset after the scatter: ones at the marks. -/
def bitset (d : Dev nD) : Buf (Elt F) (sLoc d) := (allMarks (inpA m) d).piecewise (fun _ => 1#32) ((inpA m).s0 d)

/-- After the scatter. -/
def val2 (d : Dev nD) : Valuation τ sig (Elt F) := Function.update (val1 m d) (Proc.devRef .tc main_v7) (bitset m d)
/-- At the window. -/
def val3 (d : Dev nD) : Valuation τ sig (Elt F) := after opsB (val2 m d)
/-- At the gather. -/
def val5 (d : Dev nD) : Valuation τ sig (Elt F) := after opsC (afterWindow (val3 m) d)

/-- Both calls' operands. -/
def inp : Inp F where
  va d := val1 m d (Proc.devRef .tc main_v4)
  s0 d := val1 m d (Proc.devRef .tc main_v7)
  vq d := val5 m d (Proc.devRef .tc main_v5)
  vw d := val5 m d (Proc.devRef .tc main_v16)
  f0 d := val5 m d (Proc.devRef .tc main_v17)

theorem inp_marks (d : Dev nD) : allMarks (inp m) d = allMarks (inpA m) d := rfl

/-- After the gather. -/
def val6 (d : Dev nD) : Valuation τ sig (Elt F) := Function.update (val5 m d) (Proc.devRef .tc main_v17) (foundAll (inp m) d)
/-- At the end. -/
def val7 (d : Dev nD) : Valuation τ sig (Elt F) := after opsD (val6 m d)

/-! ## The lines' results -/

variable (V : Valuation τ sig (Elt F))

set_option maxHeartbeats 2000000 in
theorem opsA_v4 : after opsA V (Proc.devRef .tc main_v4)
    = shapeCast S8192x128 (concatenate S1048576 0 [⟨S1000000, V (Proc.devRef .tc main_arg0)⟩,
        ⟨S48576, broadcastInDim S48576 ![] bcast_S_S48576 (shapeCast S_ (extractStridedSlice S1 ![0] (V (Proc.devRef .tc main_arg0)) slices_S1000000_S1_0) shapeCasts_S1_S_)⟩]
        concatenates_S1000000_S48576_S1048576_d0) shapeCasts_S1048576_S8192x128 := by
  after_results_simp <;> rfl

theorem opsA_v5 : after opsA V (Proc.devRef .tc main_v5) = shapeCast S32768x128 (V (Proc.devRef .tc main_arg1)) shapeCasts_S4194304_S32768x128 := by
  after_results_simp <;> rfl
theorem opsA_v7 : after opsA V (Proc.devRef .tc main_v7) = broadcastInDim S16777216 ![] bcast_S_S16777216 (constantI S_ 32 0#32) := by
  after_results_simp <;> rfl
theorem opsB_v8 : after opsB V (Proc.devRef .tc main_v8) = shapeCast S16384x1024 (V (Proc.devRef .tc main_v7)) shapeCasts_S16777216_S16384x1024 := by
  after_results_simp <;> rfl

/-- The rows before each block, the last block's first. -/
theorem opsB_v11 : after opsB V (Proc.devRef .tc main_v11)
    = shapeCast S32x1x1024 (concatenate S32x1024 0
        [⟨S1x1024, extractStridedSlice S1x1024 ![31, 0] (Host.slice S32x1024 ![511, 0] ![512, 1] (shapeCast S16384x1024 (V (Proc.devRef .tc main_v7)) shapeCasts_S16777216_S16384x1024) slicesBy_S16384x1024_S32x1024_511s512_0s1) slices_S32x1024_S1x1024_31_0⟩,
         ⟨S31x1024, extractStridedSlice S31x1024 ![0, 0] (Host.slice S32x1024 ![511, 0] ![512, 1] (shapeCast S16384x1024 (V (Proc.devRef .tc main_v7)) shapeCasts_S16777216_S16384x1024) slicesBy_S16384x1024_S32x1024_511s512_0s1) slices_S32x1024_S31x1024_0_0⟩]
        concatenates_S1x1024_S31x1024_S32x1024_d0) shapeCasts_S32x1024_S32x1x1024 := by
  after_results_simp <;> rfl

/-- The rows after each block, the first block's last. -/
theorem opsB_v14 : after opsB V (Proc.devRef .tc main_v14)
    = shapeCast S32x1x1024 (concatenate S32x1024 0
        [⟨S31x1024, extractStridedSlice S31x1024 ![1, 0] (Host.slice S32x1024 ![0, 0] ![512, 1] (shapeCast S16384x1024 (V (Proc.devRef .tc main_v7)) shapeCasts_S16777216_S16384x1024) slicesBy_S16384x1024_S32x1024_0s512_0s1) slices_S32x1024_S31x1024_1_0⟩,
         ⟨S1x1024, extractStridedSlice S1x1024 ![0, 0] (Host.slice S32x1024 ![0, 0] ![512, 1] (shapeCast S16384x1024 (V (Proc.devRef .tc main_v7)) shapeCasts_S16777216_S16384x1024) slicesBy_S16384x1024_S32x1024_0s512_0s1) slices_S32x1024_S1x1024_0_0⟩]
        concatenates_S31x1024_S1x1024_S32x1024_d0) shapeCasts_S32x1024_S32x1x1024 := by
  after_results_simp <;> rfl

theorem opsB_v5 : after opsB V (Proc.devRef .tc main_v5) = V (Proc.devRef .tc main_v5) := by
  after_results_simp <;> rfl
theorem opsC_v5 : after opsC V (Proc.devRef .tc main_v5) = V (Proc.devRef .tc main_v5) := by
  after_results_simp <;> rfl
theorem opsC_v16 : after opsC V (Proc.devRef .tc main_v16) = shapeCast S16777216 (V (Proc.devRef .tc main_v15)) shapeCasts_S16384x1024_S16777216 := by
  after_results_simp <;> rfl
theorem opsD_v20 : after opsD V (Proc.devRef .tc main_v20)
    = cmpi .ne (shapeCast S4194304 (V (Proc.devRef .tc main_v17)) shapeCasts_S32768x128_S4194304) (broadcastInDim S4194304 ![] bcast_S_S4194304 (constantI S_ 32 0#32)) := by
  after_results_simp <;> rfl

theorem ops_arg0 : after opsA V (Proc.devRef .tc main_arg0) = V (Proc.devRef .tc main_arg0) ∧ after opsB V (Proc.devRef .tc main_arg0) = V (Proc.devRef .tc main_arg0)
    ∧ after opsC V (Proc.devRef .tc main_arg0) = V (Proc.devRef .tc main_arg0) ∧ after opsD V (Proc.devRef .tc main_arg0) = V (Proc.devRef .tc main_arg0) := by
  refine ⟨?_, ?_, ?_, ?_⟩ <;> after_results_simp <;> rfl
theorem ops_arg1 : after opsA V (Proc.devRef .tc main_arg1) = V (Proc.devRef .tc main_arg1) ∧ after opsB V (Proc.devRef .tc main_arg1) = V (Proc.devRef .tc main_arg1)
    ∧ after opsC V (Proc.devRef .tc main_arg1) = V (Proc.devRef .tc main_arg1) ∧ after opsD V (Proc.devRef .tc main_arg1) = V (Proc.devRef .tc main_arg1) := by
  refine ⟨?_, ?_, ?_, ?_⟩ <;> after_results_simp <;> rfl

/-- The arguments stay. -/
theorem val7_arg0 (d : Dev nD) : val7 m d (Proc.devRef .tc main_arg0) = m ((T d : Thread nD τ).loc main_arg0) := by
  unfold val7 val6
  rw [(ops_arg0 _).2.2.2, Function.update_of_ne (by decide)]
  unfold val5 afterWindow
  rw [(ops_arg0 _).2.2.1, Function.update_of_ne (by decide)]
  unfold val3 val2
  rw [(ops_arg0 _).2.1, Function.update_of_ne (by decide)]
  exact (ops_arg0 _).1
theorem val7_arg1 (d : Dev nD) : val7 m d (Proc.devRef .tc main_arg1) = m ((T d : Thread nD τ).loc main_arg1) := by
  unfold val7 val6
  rw [(ops_arg1 _).2.2.2, Function.update_of_ne (by decide)]
  unfold val5 afterWindow
  rw [(ops_arg1 _).2.2.1, Function.update_of_ne (by decide)]
  unfold val3 val2
  rw [(ops_arg1 _).2.1, Function.update_of_ne (by decide)]
  exact (ops_arg1 _).1

end Cert.KernelIdeal.Bloom

end
-- ==== Proof.KernelIdeal.Launch.lean ====
/-
  The program's run: @main on each TensorCore step by step over all its arrays, the ghost state the launch makes, and what
  every execution ends with.
-/
module

public import proofs.«01_k».proof.Proof.KernelIdeal.Host
public import Idealize.ShloMosaic.Lib.Pipeline.Frame

@[expose] public section

noncomputable section

namespace Cert.KernelIdeal.Bloom

open Cert.KernelIdeal Cert.KernelIdeal.Gen
open Idealize.ShloMosaic
open Idealize.ShloMosaic.StableHlo (held seq after wp_seq)
open Idealize.ShloMosaic.SparseCore (S V T)
open Idealize.ShloMosaic.SparseCore.Cfg (HIx)
open Idealize.ShloMosaic.Pipeline (ucRefs cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-! ## Taking a few arrays out of all of them -/

/-- All of @main's arrays on device `d`. -/
abbrev arrays (d : Dev nD) (W : Valuation τ sig (Elt F)) : sProp 𝕄 := held (T d) (ucRefs τ sig) W

/-- Some of the arrays, and what puts them back changed. -/
theorem arrays_focus (d : Dev nD) (R : Finset (DevRef τ sig)) (hR : R ⊆ ucRefs τ sig) (W W' : Valuation τ sig (Elt F)) (h : ∀ b, b ∉ R → W b = W' b) :
    arrays d W ⊢ iprop(held (T d) R W ∗ (held (T d) R W' -∗ arrays d W') : sProp 𝕄) := by
  have e : (held (T d) (ucRefs τ sig \ R) W : sProp 𝕄) = held (T d) (ucRefs τ sig \ R) W' :=
    StableHlo.held_congr (T d) fun b hb => h b (Finset.mem_sdiff.1 hb).2
  iintro H
  ihave H2 := (ent_of_eq (StableHlo.held_sub_split (T d) hR W)) $$ H
  icases H2 with ⟨H, Hr⟩
  isplitl [H]; · iexact H
  iintro H
  iapply (ent_of_eq (StableHlo.held_sub_split (T d) hR W').symm)
  isplitl [H]; · iexact H
  iapply (ent_of_eq e); iexact Hr

theorem held_pair (d : Dev nD) (r s : Ref sig .tc) (hrs : Proc.devRef (τ := τ) .tc r ∉ ({Proc.devRef .tc s} : Finset (DevRef τ sig))) (W : Valuation τ sig (Elt F)) :
    (held (T d) {Proc.devRef .tc r, Proc.devRef .tc s} W : sProp 𝕄)
      = iprop(((T d : Thread nD τ).loc r ↦{fullShare} W (Proc.devRef .tc r)) ∗ (T d : Thread nD τ).loc s ↦{fullShare} W (Proc.devRef .tc s)) := by
  unfold held
  rw [SparseCore.bigSep_insert' hrs, bigSep_singleton]

theorem held_triple (d : Dev nD) (r s t : Ref sig .tc) (hr : Proc.devRef (τ := τ) .tc r ∉ ({Proc.devRef .tc s, Proc.devRef .tc t} : Finset (DevRef τ sig)))
    (hs : Proc.devRef (τ := τ) .tc s ∉ ({Proc.devRef .tc t} : Finset (DevRef τ sig))) (W : Valuation τ sig (Elt F)) :
    (held (T d) {Proc.devRef .tc r, Proc.devRef .tc s, Proc.devRef .tc t} W : sProp 𝕄)
      = iprop(((T d : Thread nD τ).loc r ↦{fullShare} W (Proc.devRef .tc r)) ∗ ((T d : Thread nD τ).loc s ↦{fullShare} W (Proc.devRef .tc s))
          ∗ (T d : Thread nD τ).loc t ↦{fullShare} W (Proc.devRef .tc t)) := by
  unfold held
  rw [SparseCore.bigSep_insert' hr, SparseCore.bigSep_insert' hs, bigSep_singleton]

variable (m : (ℓ : Loc nD τ sig) → Buf (Elt F) ℓ) (ρ : Dev nD → PrngReg)

/-! ## The three calls -/

/-- The scatter: the bitset goes into write mode, every subcore gets its part, and it comes out with the marks set. -/
theorem run_scatter (κ : GSem nD τ sig → ℕ) (d : Dev nD) (Q : PUnit → sProp 𝕄) :
    iprop((K (F := F)).ctx EH (P (inp m)) κ ∗ (∃ ι, wmInv wm ι) ∗ (K (F := F)).tcSt EH d 0 ∗ arrays d (val1 m d)
        ∗ (((K (F := F)).tcSt EH d 1 ∗ arrays d (val2 m d)) -∗ |={Set.univ}=> Q ⟨⟩))
      ⊢ wp frame (wpE ((K (F := F)).defs (D (F := F))) 𝒱 (T d) none) Set.univ ((K (F := F)).run d 0) Q := by
  have f := arrays_focus (F := F) d {Proc.devRef .tc main_v4, Proc.devRef .tc main_v7} (by decide) (val1 m d) (val2 m d)
    (fun b hb => (Function.update_of_ne (fun e => hb (by rw [e]; decide)) _ _).symm)
  have e4 : val2 m d (Proc.devRef .tc main_v4) = val1 m d (Proc.devRef .tc main_v4) := Function.update_of_ne (by decide) _ _
  have e7 : val2 m d (Proc.devRef .tc main_v7) = (allMarks (inp m) d).piecewise (fun _ => 1#32) ((inp m).s0 d) := Function.update_self _ _ _
  have hp := held_pair (F := F) d main_v4 main_v7 (by decide) (val1 m d)
  have hq := held_pair (F := F) d main_v4 main_v7 (by decide) (val2 m d)
  rw [e4, e7] at hq
  iintro ⟨#Hctx, #⟨%ι, Hwm⟩, Hst, Ha, Hk⟩
  ihave H := f $$ Ha
  icases H with ⟨H, Hback⟩
  ihave H2 := (ent_of_eq hp) $$ H
  icases H2 with ⟨H4, H7⟩
  imod (pointsTo_castIn (emb := wm) (ιwm := ι) (E := Set.univ) (ℓ := sLoc d) (I := Finset.univ) (f := (inp m).s0 d) (ones d)) $$ [H7] with H7
  · isplitr; · iexact Hwm
    iexact H7
  iapply (wp_fupd frame (wpE ((K (F := F)).defs (D (F := F))) 𝒱 (T d) none) Set.univ ((K (F := F)).run d 0) Q)
  iapply ((K (F := F)).wp_run (D (F := F)) 𝒱 (EH := EH) (P := P (inp m)) κ d 0)
  isplitr; · iexact Hctx
  isplitl [Hst]; · iexact Hst
  isplitl [H4 H7]
  · iapply (st0_cores (inp m) d)
    isplitl [H4]; · iexact H4
    iexact H7
  iintro ⟨Hst, Hdn⟩
  ihave Hdn2 := (dn0_cores (inp m) d) $$ Hdn
  icases Hdn2 with ⟨H4, H7⟩
  imod (willBeTo_castOut_some (emb := wm) (ιwm := ι) (E := Set.univ) (ℓ := sLoc d) (I := Finset.univ) (f := (inp m).s0 d) (g := fun _ => 1#32)) $$ [H7] with H7
  · isplitr; · iexact Hwm
    iexact H7
  iapply Hk
  isplitl [Hst]; · iexact Hst
  iapply Hback
  iapply (ent_of_eq hq.symm)
  isplitl [H4]; · iexact H4
  iexact H7

/-- The gather: every subcore gets its part, and the result comes back found. -/
theorem run_gather (κ : GSem nD τ sig → ℕ) (d : Dev nD) (Q : PUnit → sProp 𝕄) :
    iprop((K (F := F)).ctx EH (P (inp m)) κ ∗ (K (F := F)).tcSt EH d 1 ∗ arrays d (val5 m d)
        ∗ (((K (F := F)).tcSt EH d 2 ∗ arrays d (val6 m d)) -∗ Q ⟨⟩))
      ⊢ wp frame (wpE ((K (F := F)).defs (D (F := F))) 𝒱 (T d) none) Set.univ ((K (F := F)).run d 1) Q := by
  have f := arrays_focus (F := F) d {Proc.devRef .tc main_v5, Proc.devRef .tc main_v16, Proc.devRef .tc main_v17} (by decide) (val5 m d) (val6 m d)
    (fun b hb => (Function.update_of_ne (fun e => hb (by rw [e]; decide)) _ _).symm)
  have e5 : val6 m d (Proc.devRef .tc main_v5) = val5 m d (Proc.devRef .tc main_v5) := Function.update_of_ne (by decide) _ _
  have e16 : val6 m d (Proc.devRef .tc main_v16) = val5 m d (Proc.devRef .tc main_v16) := Function.update_of_ne (by decide) _ _
  have e17 : val6 m d (Proc.devRef .tc main_v17) = foundAll (inp m) d := Function.update_self _ _ _
  have hp := held_triple (F := F) d main_v5 main_v16 main_v17 (by decide) (by decide) (val5 m d)
  have hq := held_triple (F := F) d main_v5 main_v16 main_v17 (by decide) (by decide) (val6 m d)
  rw [e5, e16, e17] at hq
  iintro ⟨#Hctx, Hst, Ha, Hk⟩
  ihave H := f $$ Ha
  icases H with ⟨H, Hback⟩
  iapply ((K (F := F)).wp_run (D (F := F)) 𝒱 (EH := EH) (P := P (inp m)) κ d 1)
  isplitr; · iexact Hctx
  isplitl [Hst]; · iexact Hst
  isplitl [H]
  · iapply (ent_of_eq ((st1_cores (inp m) d).trans hp.symm).symm)
    iexact H
  iintro ⟨Hst, Hdn⟩
  iapply Hk
  isplitl [Hst]; · iexact Hst
  iapply Hback
  iapply (ent_of_eq ((dn1_cores (inp m) d).trans hq.symm))
  iexact Hdn

theorem windowRegion_pre (W : Dev nD → Valuation τ sig (Elt F)) (b : ℕ) (c : Dev nD) : (windowRegion W b).pre c
    = iprop(held (T c) (Pipeline.arrRefs spec1) (W c) ∗ ∃ R, ⌜(K (F := F)).WBelow (T c) R b⌝ ∗ owes (T c) ((K (F := F)).Otc c 1) R) := rfl
theorem windowRegion_post (W : Dev nD → Valuation τ sig (Elt F)) (b : ℕ) (c : Dev nD) : (windowRegion W b).post c
    = iprop(held (T c) (Pipeline.arrRefs spec1) (afterWindow W c) ∗ ∃ R, ⌜(K (F := F)).WBelow (T c) R b⌝ ∗ owes (T c) ((K (F := F)).Otc c 1) R) := rfl

/-- The window between them. -/
theorem run_window [∀ e, Nonempty (Elt F e)] (κ : GSem nD τ sig → ℕ) (d : Dev nD) (Q : PUnit → sProp 𝕄) :
    iprop((K (F := F)).ctx EH (P (inp m)) κ ∗ (K (F := F)).tcSt EH d 1 ∗ boundary (T d) ∗ arrays d (val3 m d)
        ∗ cellsGhost (Pipeline.pin (pcfgs (F := F)) adm) EP 0 d ∗ toksInit (Pipeline.pin (pcfgs (F := F)) adm) EP 0 d
        ∗ (((K (F := F)).tcSt EH d 1 ∗ boundary (T d) ∗ arrays d (afterWindow (val3 m) d)) -∗ Q ⟨⟩))
      ⊢ wp frame (wpE ((K (F := F)).defs (D (F := F))) 𝒱 (T d) none) Set.univ (Prog.lift (.customCall (SparseCore.inner (Pipeline.entry 0)) ())) Q := by
  have f := arrays_focus (F := F) d (Pipeline.arrRefs spec1) (Pipeline.arrRefs_sub_ucRefs spec1 (by decide)) (val3 m d) (afterWindow (val3 m) d)
    (fun b hb => (Function.update_of_ne (fun e => hb (by rw [e]; decide)) _ _).symm)
  iintro ⟨#Hctx, Hst, Hb, Ha, Hc, Ht, Hk⟩
  unfold SparseCore.Cfg.tcSt
  icases Hst with ⟨HO, Hst⟩
  ihave H := f $$ Ha
  icases H with ⟨H, Hback⟩
  iapply ((K (F := F)).wp_liftProg (D (F := F)) 𝒱 (T d) Set.univ none (Prog.lift (.customCall (Pipeline.entry 0) ())) Q)
  iapply (Pipeline.RegionSeg.wp (pcfgs (F := F)) adm (wdat (val3 m) (fun c => (K (F := F)).Otc c 1) (below (F := F) (8 * 1))) none cellOf_inj EP defs₀ 𝒱₀ (K (F := F)).L (K (F := F)).lev
    (windowRegion (val3 m) (8 * 1)) d none (fun _ h => nomatch h) (fun _ => .ret ⟨⟩) Q)
  isplitl [Hk Hst Hback]
  · iintro ⟨Hb, Hp⟩
    ihave Hp2 := (ent_of_eq (windowRegion_post (val3 m) (8 * 1) d)) $$ Hp
    icases Hp2 with ⟨H, HO⟩
    rw [wp_ret]; imodintro
    iapply Hk
    isplitl [HO Hst]
    · isplitl [HO]; · iexact HO
      iexact Hst
    isplitl [Hb]; · iexact Hb
    iapply Hback; iexact H
  isplitl [Hb]; · iexact Hb
  isplitl [H HO]
  · iapply (ent_of_eq (windowRegion_pre (val3 m) (8 * 1) d).symm)
    isplitl [H]; · iexact H
    iexact HO
  isplitr; · iapply ((K (F := F)).ctx_levAts κ); iexact Hctx
  isplitl [Hc]; · iexact Hc
  iexact Ht

/-! ## @main -/

/-- What the launch gives device `d`'s TensorCore beyond its arrays: write mode's invariant, and the window's own cells. -/
def given (d : Dev nD) : sProp 𝕄 :=
  iprop((∃ ι, wmInv wm ι) ∗ cellsGhost (Pipeline.pin (pcfgs (F := F)) adm) EP 0 d ∗ toksInit (Pipeline.pin (pcfgs (F := F)) adm) EP 0 d)

/-- What is kept to the end: the arguments as they were, and the result. -/
def kept (d : Dev nD) : sProp 𝕄 :=
  iprop(((T d : Thread nD τ).loc main_arg0 ↦{fullShare} m ((T d : Thread nD τ).loc main_arg0))
    ∗ ((T d : Thread nD τ).loc main_arg1 ↦{fullShare} m ((T d : Thread nD τ).loc main_arg1))
    ∗ (T d : Thread nD τ).loc main_v20 ↦{fullShare} val7 m d (Proc.devRef .tc main_v20))

theorem arrays_kept (d : Dev nD) : arrays d (val7 m d) ⊢ kept m d := by
  have f := arrays_focus (F := F) d {Proc.devRef .tc main_arg0, Proc.devRef .tc main_arg1, Proc.devRef .tc main_v20} (by decide) (val7 m d) (val7 m d) (fun _ _ => rfl)
  have hp := held_triple (F := F) d main_arg0 main_arg1 main_v20 (by decide) (by decide) (val7 m d)
  rw [val7_arg0, val7_arg1] at hp
  iintro H
  ihave H2 := f $$ H
  icases H2 with ⟨H, -⟩
  unfold kept
  iapply (ent_of_eq hp); iexact H

/-- A line of operations over all the arrays. -/
theorem run_line (d : Dev nD) (ops : List (HloOp τ sig (Elt F))) (hs : ops.Forall fun op => op.bufs ⊆ StableHlo.tcRefs τ sig) (hf : ops.Forall fun op => op.fresh = ∅)
    (W : Valuation τ sig (Elt F)) {α : Type} (k : PUnit → Prog (TpuEff nD τ sig (Elt F) (SparseCore.Sig (ΛP (F := F)) 2) .tc) α) (Q : α → sProp 𝕄) :
    iprop(boundary (T d) ∗ arrays d W)
      ⊢ iprop(((boundary (T d) ∗ arrays d (after ops W)) -∗ wp frame (wpE ((K (F := F)).defs (D (F := F))) 𝒱 (T d) none) Set.univ (k ⟨⟩) Q)
        -∗ wp frame (wpE ((K (F := F)).defs (D (F := F))) 𝒱 (T d) none) Set.univ (seq ops >>= k) Q) :=
  wp_seq 𝒱 none Set.univ d (ucRefs τ sig) k ops (fun op ho => Pipeline.sub_ucRefs op (List.forall_iff_forall_mem.1 hs op ho)) (List.forall_iff_forall_mem.1 hf) W

theorem all_arrays (d : Dev nD) : (unscopedBufs d (fun b => m ((T d : Thread nD τ).loc b)) : sProp 𝕄) = arrays d (val0 m d) :=
  Pipeline.unscopedBufs_held d (val0 m d)

theorem hmain [∀ e, Nonempty (Elt F e)] (κ : GSem nD τ sig → ℕ) (d : Dev nD) :
    iprop((K (F := F)).ctx EH (P (inp m)) κ ∗ (K (F := F)).tcSt EH d 0 ∗ (K (F := F)).tcRes m ρ d ∗ given d)
      ⊢ wp frame (wpE ((K (F := F)).defs (D (F := F))) 𝒱 (T d) none) Set.univ (main d)
          fun _ => iprop((K (F := F)).tcSt EH d 2 ∗ kept m d ∗ (K (F := F)).tcEnd d) := by
  unfold SparseCore.Cfg.tcRes SparseCore.Cfg.tcEnd given
  rw [main_eq]
  iintro ⟨#Hctx, Hst, ⟨Hb, Hu, Hts, -⟩, ⟨#Hwm, Hc, Ht⟩⟩
  ihave Ha := (ent_of_eq (all_arrays m d)) $$ Hu
  iapply (run_line d opsA opsA_sub opsA_fresh (val0 m d)) $$ [Hb Ha]
  · isplitl [Hb]; · iexact Hb
    iexact Ha
  iintro ⟨Hb, Ha⟩
  rw [wp_bind]
  iapply (run_scatter m κ d)
  isplitr; · iexact Hctx
  isplitr; · iexact Hwm
  isplitl [Hst]; · iexact Hst
  isplitl [Ha]; · iexact Ha
  iintro ⟨Hst, Ha⟩
  imodintro
  iapply (run_line d opsB opsB_sub opsB_fresh (val2 m d)) $$ [Hb Ha]
  · isplitl [Hb]; · iexact Hb
    iexact Ha
  iintro ⟨Hb, Ha⟩
  rw [wp_bind]
  iapply (run_window m κ d)
  isplitr; · iexact Hctx
  isplitl [Hst]; · iexact Hst
  isplitl [Hb]; · iexact Hb
  isplitl [Ha]; · iexact Ha
  isplitl [Hc]; · iexact Hc
  isplitl [Ht]; · iexact Ht
  iintro ⟨Hst, Hb, Ha⟩
  iapply (run_line d opsC opsC_sub opsC_fresh (afterWindow (val3 m) d)) $$ [Hb Ha]
  · isplitl [Hb]; · iexact Hb
    iexact Ha
  iintro ⟨Hb, Ha⟩
  rw [wp_bind]
  iapply (run_gather m κ d)
  isplitr; · iexact Hctx
  isplitl [Hst]; · iexact Hst
  isplitl [Ha]; · iexact Ha
  iintro ⟨Hst, Ha⟩
  iapply (run_line d opsD opsD_sub opsD_fresh (val6 m d)) $$ [Hb Ha]
  · isplitl [Hb]; · iexact Hb
    iexact Ha
  iintro ⟨Hb, Ha⟩
  rw [wp_pure]
  imodintro
  isplitl [Hst]; · iexact Hst
  isplitl [Ha]; · iapply (arrays_kept m d); iexact Ha
  isplitl [Hb] <;> iassumption

/-! ## The launch -/

/-- The ghost state at the launch: the handshakes' rounds, the window's rounds, nothing in write mode. -/
def ghost₀ : UU F := (initOf (K (F := F)).hsCells (K (F := F)).hsToks,
  initOf (Pipeline.cells (Pipeline.pin (pcfgs (F := F)) adm) cellOf_inj) (Pipeline.launchToks (Pipeline.pin (pcfgs (F := F)) adm) cellOf_inj),
  wm₀ nD τ sig (Elt F), 1)

theorem wm_own : (BI.own (((Emb.inl : Emb (WmRA nD τ sig (Elt F)) (WmRA nD τ sig (Elt F) × Counters)).trans ((Emb.inr : Emb _ (UP × (WmRA nD τ sig (Elt F) × Counters))).trans embR)) (wm₀ nD τ sig (Elt F))) : sProp 𝕄)
    = ownU (wm (wm₀ nD τ sig (Elt F))) := rfl

theorem ghost₀_split : (ownU (ghost₀ (F := F)) : sProp 𝕄)
    ⊢ iprop(BI.own (EH (F := F) (initOf (K (F := F)).hsCells (K (F := F)).hsToks))
        ∗ BI.own (EP (F := F) (initOf (Pipeline.cells (Pipeline.pin (pcfgs (F := F)) adm) cellOf_inj) (Pipeline.launchToks (Pipeline.pin (pcfgs (F := F)) adm) cellOf_inj)))
        ∗ ownU (wm (wm₀ nD τ sig (Elt F)))) := by
  unfold ghost₀
  iintro H
  ihave H2 := (ownU_pair _ _) $$ H
  icases H2 with ⟨H1, H⟩
  ihave H2 := (own_pair_emb _ _ _) $$ H
  icases H2 with ⟨H2, H⟩
  ihave H3 := (own_pair_emb _ _ _) $$ H
  icases H3 with ⟨H3, -⟩
  isplitl [H1]; · iexact H1
  isplitl [H2]; · iexact H2
  iapply (ent_of_eq (wm_own (F := F))); iexact H3

theorem one_device (Φ : Dev nD → sProp 𝕄) : bigSep Finset.univ Φ = Φ 0 := bigSep_univ_of_subsingleton (0 : Dev nD)

theorem launch : (ownU (ghost₀ (F := F)) : sProp 𝕄)
    ⊢ |={Set.univ}=> iprop(BI.own (EH (initOf (K (F := F)).hsCells (K (F := F)).hsToks)) ∗ (bigSep Finset.univ fun d : Dev nD => given d)
        ∗ bigSep Finset.univ fun thr : Thread nD τ => bigSep Finset.univ fun q : Fin 2 => (P (inp m)).x q thr) := by
  iintro H
  ihave H2 := (ghost₀_split) $$ H
  icases H2 with ⟨H1, H2, H3⟩
  imod (Pipeline.fund_ghost (Pipeline.pin (pcfgs (F := F)) adm) EP cellOf_inj) $$ H2 with ⟨Hc, Ht⟩
  imod (wmInv_alloc (emb := wm) ⟨m, fun _ => 0, fun _ => default⟩ ∅ (E := Set.univ)) $$ H3 with ⟨%ι, -, #Hwm⟩
  imodintro
  isplitl [H1]; · iexact H1
  isplitl
  · iapply (ent_of_eq (one_device (F := F) fun d => given d).symm)
    ihave Hc2 := (ent_of_eq ((one_device (F := F) fun d => bigSep Finset.univ fun p : Fin 1 => cellsGhost (Pipeline.pin (pcfgs (F := F)) adm) EP p d).trans
      (bigSep_univ_of_subsingleton (0 : Fin 1)))) $$ Hc
    ihave Ht2 := (ent_of_eq ((one_device (F := F) fun d => bigSep Finset.univ fun p : Fin 1 => toksInit (Pipeline.pin (pcfgs (F := F)) adm) EP p d).trans
      (bigSep_univ_of_subsingleton (0 : Fin 1)))) $$ Ht
    unfold given
    isplitr; · iexists ι; iexact Hwm
    isplitl [Hc2]; · iexact Hc2
    iexact Ht2
  iapply (bigSep_intro_persistent (R := iprop(∃ ι, wmInv wm ι)) fun thr _ => bigSep_intro_persistent fun q _ => .rfl)
  iexists ι; iexact Hwm

/-! ## The run -/

def fq (d : Dev nD) (s' : Phys nD τ sig (Elt F)) : Prop :=
  s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_v20) = val7 m d (Proc.devRef .tc main_v20)

set_option maxRecDepth 16384 in
theorem hfin (d : Dev nD) (s' : Phys nD τ sig (Elt F)) : iprop(kept m d ∗ SI s') ⊢ (⌜fq m d s'⌝ : sProp 𝕄) := by
  unfold kept
  iintro ⟨⟨H0, H1, H2⟩, HSI⟩
  ihave H := (persistent_entails_right (SI_pointsTo_agree (st := s') (ℓ := (T d : Thread nD τ).loc main_arg0) (I := Finset.univ) (q := fullShare) (f := m ((T d : Thread nD τ).loc main_arg0)))) $$ [HSI H0]
  · isplitl [HSI] <;> iassumption
  icases H with ⟨%h0, HSI, -⟩
  ihave H := (persistent_entails_right (SI_pointsTo_agree (st := s') (ℓ := (T d : Thread nD τ).loc main_arg1) (I := Finset.univ) (q := fullShare) (f := m ((T d : Thread nD τ).loc main_arg1)))) $$ [HSI H1]
  · isplitl [HSI] <;> iassumption
  icases H with ⟨%h1, HSI, -⟩
  ihave H := (SI_pointsTo_agree (st := s') (ℓ := (T d : Thread nD τ).loc main_v20) (I := Finset.univ) (q := fullShare) (f := val7 m d (Proc.devRef .tc main_v20))) $$ [HSI H2]
  · isplitl [HSI] <;> iassumption
  icases H with %h2
  ipureintro
  exact ⟨funext fun i => h0 i (Finset.mem_univ i), funext fun i => h1 i (Finset.mem_univ i), funext fun i => h2 i (Finset.mem_univ i)⟩

def QC : PUnit × MemSt nD τ sig (Elt F) → Prop := fun r =>
  (∀ d : Dev nD, r.2.mem ((T d : Thread nD τ).loc main_arg0) = m ((T d : Thread nD τ).loc main_arg0)
    ∧ r.2.mem ((T d : Thread nD τ).loc main_arg1) = m ((T d : Thread nD τ).loc main_arg1)
    ∧ r.2.mem ((T d : Thread nD τ).loc main_v20) = val7 m d (Proc.devRef .tc main_v20)) ∧ r.2.sem = fun _ => 0

/-- Every execution ends, with the arguments as they were, the result at its value and the counters at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (inp m)) (A := ∅) facts v₀
    (fun q hq => match q with | 0 => nomatch hq | 1 => nomatch hq)
    (fun q _ => match q with | 0 => tileObl0 (inp m) | 1 => tileObl1 (inp m))
    (fun q _ => match q with | 0 => SparseCore.Cfg.VecSplit.of_plain (vecSplit0 (inp m)) | 1 => SparseCore.Cfg.VecSplit.of_plain (vecSplit1 (inp m)))
    m ρ main given (kept m) (ghost₀ (F := F)) (sep_elim_left.trans (launch m)) (hmain m ρ) (fq m) (hfin m) (QC m) (fun _ h hz => ⟨h, hz⟩)

end Cert.KernelIdeal.Bloom

end
-- ==== Proof.KernelIdeal.Payload.lean ====
/-
  What the window call computes on one block: over the block's rows laid end to end between the row before and the row
  after, the `and` over seven entries from an entry on of the `or` over the seven entries up to each.
-/
module

public import proofs.«01_k».proof.Proof.Gen.KernelIdeal.Skeleton
public import Idealize.ShloMosaic.Lib.Pipeline.Value
public import Idealize.ShloMosaic.Lib.ValueIdxCore

@[expose] public section

noncomputable section

namespace Cert.KernelIdeal.Bloom

open Cert.KernelIdeal Cert.KernelIdeal.Gen
open Idealize.ShloMosaic Idealize.ShloMosaic.ValueIdx

variable {F : FTy → Type} [FloatOps F]

/-- The `or` of the seven entries up to `k`. -/
def or7 (g : ℕ → BitVec 32) (k : ℕ) : BitVec 32 := g k ||| g (k - 1) ||| g (k - 2) ||| g (k - 3) ||| g (k - 4) ||| g (k - 5) ||| g (k - 6)
/-- The `and` of the seven entries from `k` on. -/
def and7 (g : ℕ → BitVec 32) (k : ℕ) : BitVec 32 := g k &&& g (k + 1) &&& g (k + 2) &&& g (k + 3) &&& g (k + 4) &&& g (k + 5) &&& g (k + 6)

/-! ## The four stages of the block's computation -/

/-- The row before, the block and the row after. -/
def rows (v0 : Vec F S512x1024 .i32) (v2 : Vec F S1x1x1024 .i32) (v4 : Vec F S1x1x1024 .i32) : IVec S514x1024 32 :=
  concatenate S514x1024 0 [⟨S1x1024, shapeCast S1x1024 v2 shapeCasts_S1x1x1024_S1x1024⟩, ⟨S512x1024, shapeCast S512x1024 v0 shapeCasts_S512x1024_S512x1024⟩,
    ⟨S1x1024, shapeCast S1x1024 v4 shapeCasts_S1x1x1024_S1x1024⟩] concatenates_S1x1024_S512x1024_S1x1024_S514x1024_d0

/-- Every row with the last eight entries of the row before on its left. -/
def leftHalo (x : IVec S514x1024 32) : IVec S514x1032 32 :=
  concatenate S514x1032 1 [⟨S514x8, concatenate S514x8 0 [⟨S1x8, extractStridedSlice S1x8 ![0, 1016] x slices_S514x1024_o0_1016_S1x8⟩,
    ⟨S513x8, extractStridedSlice S513x8 ![0, 1016] x slices_S514x1024_o0_1016_S513x8⟩] concatenates_S1x8_S513x8_S514x8_d0⟩, ⟨S514x1024, x⟩]
    concatenates_S514x8_S514x1024_S514x1032_d1

/-- Every row with the first eight entries of the row after on its right. -/
def rightHalo (x : IVec S514x1024 32) : IVec S514x1032 32 :=
  concatenate S514x1032 1 [⟨S514x1024, x⟩, ⟨S514x8, concatenate S514x8 0 [⟨S513x8, extractStridedSlice S513x8 ![1, 0] x slices_S514x1024_o1_0_S513x8⟩,
    ⟨S1x8, extractStridedSlice S1x8 ![513, 0] x slices_S514x1024_o513_0_S1x8⟩] concatenates_S513x8_S1x8_S514x8_d0⟩]
    concatenates_S514x1024_S514x8_S514x1032_d1

/-- The seven shifts to the right, `or`ed. -/
def orShifts (x : IVec S514x1032 32) : IVec S514x1024 32 :=
  ori (ori (ori (ori (ori (ori (extractStridedSlice S514x1024 ![0, 8] x slices_S514x1032_o0_8_S514x1024)
    (extractStridedSlice S514x1024 ![0, 7] x slices_S514x1032_o0_7_S514x1024)) (extractStridedSlice S514x1024 ![0, 6] x slices_S514x1032_o0_6_S514x1024))
    (extractStridedSlice S514x1024 ![0, 5] x slices_S514x1032_o0_5_S514x1024)) (extractStridedSlice S514x1024 ![0, 4] x slices_S514x1032_o0_4_S514x1024))
    (extractStridedSlice S514x1024 ![0, 3] x slices_S514x1032_o0_3_S514x1024)) (extractStridedSlice S514x1024 ![0, 2] x slices_S514x1032_o0_2_S514x1024)

/-- The seven shifts to the left, `and`ed. -/
def andShifts (x : IVec S514x1032 32) : IVec S514x1024 32 :=
  andi (andi (andi (andi (andi (andi (extractStridedSlice S514x1024 ![0, 0] x slices_S514x1032_o0_0_S514x1024)
    (extractStridedSlice S514x1024 ![0, 1] x slices_S514x1032_o0_1_S514x1024)) (extractStridedSlice S514x1024 ![0, 2] x slices_S514x1032_o0_2_S514x1024))
    (extractStridedSlice S514x1024 ![0, 3] x slices_S514x1032_o0_3_S514x1024)) (extractStridedSlice S514x1024 ![0, 4] x slices_S514x1032_o0_4_S514x1024))
    (extractStridedSlice S514x1024 ![0, 5] x slices_S514x1032_o0_5_S514x1024)) (extractStridedSlice S514x1024 ![0, 6] x slices_S514x1032_o0_6_S514x1024)

theorem pay_eq (v0 : Vec F S512x1024 .i32) (v2 : Vec F S1x1x1024 .i32) (v4 : Vec F S1x1x1024 .i32) :
    k1_pay1 v0 v2 v4 = extractStridedSlice S512x1024 ![1, 0] (andShifts (rightHalo (orShifts (leftHalo (rows v0 v2 v4))))) slices_S514x1024_o1_0_S512x1024 := rfl

/-! ## Each stage read at an entry -/

theorem leftHalo_at (x : IVec S514x1024 32) (g : ℕ → BitVec 32) (hx : ∀ (r : Fin 514) (c : Fin 1024), x (ix2 r c) = g (1024 * r.val + c.val))
    (r : Fin 514) (c : Fin 1032) (h : 8 ≤ 1024 * r.val + c.val) : leftHalo x (ix2 r c) = g (1024 * r.val + c.val - 8) := by
  have hr := r.isLt
  have hc := c.isLt
  unfold leftHalo
  by_cases h8 : 8 ≤ c.val
  · rw [concatenate_pair_apply_right (s₁ := S514x8) (s₂ := S514x1024) 1 _ _ _ (ix2 r c) rfl rfl (ix2 r (⟨c.val - 8, by omega⟩ : Fin 1024)) (fun b hb => by
      match b with
      | 0 => rfl
      | 1 => exact absurd rfl hb) (show c.val - 8 + 8 = c.val by omega), hx]
    exact congrArg g (show 1024 * r.val + (c.val - 8) = _ by omega)
  · have hr1 : 1 ≤ r.val := by omega
    rw [concatenate_pair_apply_left (s₁ := S514x8) (s₂ := S514x1024) 1 _ _ _ (ix2 r c) rfl (ix2 r (⟨c.val, by omega⟩ : Fin 8)) (fun b => by
      match b with
      | 0 => rfl
      | 1 => rfl)]
    rw [concatenate_pair_apply_right (s₁ := S1x8) (s₂ := S513x8) 0 _ _ _ (ix2 r (⟨c.val, by omega⟩ : Fin 8)) rfl rfl (ix2 (⟨r.val - 1, by omega⟩ : Fin 513) (⟨c.val, by omega⟩ : Fin 8)) (fun b hb => by
      match b with
      | 0 => exact absurd rfl hb
      | 1 => rfl) (show r.val - 1 + 1 = r.val by omega)]
    rw [extractStridedSlice_apply _ x _ _ (ix2 (⟨r.val - 1, by omega⟩ : Fin 514) (⟨1016 + c.val, by omega⟩ : Fin 1024)) (fun a => by
      match a with
      | 0 => exact (Nat.zero_add _).symm
      | 1 => rfl), hx]
    exact congrArg g (show 1024 * (r.val - 1) + (1016 + c.val) = _ by omega)

theorem rightHalo_at (x : IVec S514x1024 32) (g : ℕ → BitVec 32)
    (hx : ∀ (r : Fin 514) (c : Fin 1024), 8 ≤ 1024 * r.val + c.val → x (ix2 r c) = g (1024 * r.val + c.val))
    (r : Fin 514) (c : Fin 1032) (h : 8 ≤ 1024 * r.val + c.val) (h' : r.val < 513) : rightHalo x (ix2 r c) = g (1024 * r.val + c.val) := by
  have hc := c.isLt
  unfold rightHalo
  by_cases h8 : c.val < 1024
  · rw [concatenate_pair_apply_left (s₁ := S514x1024) (s₂ := S514x8) 1 _ _ _ (ix2 r c) rfl (ix2 r (⟨c.val, h8⟩ : Fin 1024)) (fun b => by
      match b with
      | 0 => rfl
      | 1 => rfl)]
    exact hx r ⟨c.val, h8⟩ h
  · rw [concatenate_pair_apply_right (s₁ := S514x1024) (s₂ := S514x8) 1 _ _ _ (ix2 r c) rfl rfl (ix2 r (⟨c.val - 1024, by omega⟩ : Fin 8)) (fun b hb => by
      match b with
      | 0 => rfl
      | 1 => exact absurd rfl hb) (show c.val - 1024 + 1024 = c.val by omega)]
    rw [concatenate_pair_apply_left (s₁ := S513x8) (s₂ := S1x8) 0 _ _ _ (ix2 r (⟨c.val - 1024, by omega⟩ : Fin 8)) rfl (ix2 (⟨r.val, h'⟩ : Fin 513) (⟨c.val - 1024, by omega⟩ : Fin 8)) (fun b => by
      match b with
      | 0 => rfl
      | 1 => rfl)]
    rw [extractStridedSlice_apply _ x _ _ (ix2 (⟨1 + r.val, by omega⟩ : Fin 514) (⟨c.val - 1024, by omega⟩ : Fin 1024)) (fun a => by
      match a with
      | 0 => rfl
      | 1 => exact (Nat.zero_add _).symm), hx _ _ (show 8 ≤ 1024 * (1 + r.val) + (c.val - 1024) by omega)]
    exact congrArg g (show 1024 * (1 + r.val) + (c.val - 1024) = _ by omega)

/-- A shift of the widened rows by `o` columns, read at an entry. -/
theorem shift_at (x : IVec S514x1032 32) (o : ℕ) (ho : o ≤ 8) (h : S514x1032.Slices ![0, o] S514x1024) (r : Fin 514) (c : Fin 1024) :
    extractStridedSlice S514x1024 ![0, o] x h (ix2 r c) = x (ix2 r (⟨o + c.val, by omega⟩ : Fin 1032)) :=
  extractStridedSlice_apply _ x _ _ _ (fun a => by
    match a with
    | 0 => exact (Nat.zero_add _).symm
    | 1 => rfl)

theorem orShifts_at (x : IVec S514x1032 32) (g : ℕ → BitVec 32)
    (hx : ∀ (r : Fin 514) (c : Fin 1032), 8 ≤ 1024 * r.val + c.val → x (ix2 r c) = g (1024 * r.val + c.val - 8))
    (r : Fin 514) (c : Fin 1024) (h : 8 ≤ 1024 * r.val + c.val) : orShifts x (ix2 r c) = or7 g (1024 * r.val + c.val) := by
  have key : ∀ (o : ℕ) (ho : o ≤ 8) (hs : S514x1032.Slices ![0, o] S514x1024),
      extractStridedSlice S514x1024 ![0, o] x hs (ix2 r c) = g (1024 * r.val + c.val - (8 - o)) := by
    intro o ho hs
    rw [shift_at x o ho hs r c, hx _ _ (show 8 ≤ 1024 * r.val + (o + c.val) by omega)]
    exact congrArg g (show 1024 * r.val + (o + c.val) - 8 = _ by omega)
  show extractStridedSlice S514x1024 ![0, 8] x _ (ix2 r c) ||| extractStridedSlice S514x1024 ![0, 7] x _ (ix2 r c) ||| extractStridedSlice S514x1024 ![0, 6] x _ (ix2 r c)
    ||| extractStridedSlice S514x1024 ![0, 5] x _ (ix2 r c) ||| extractStridedSlice S514x1024 ![0, 4] x _ (ix2 r c) ||| extractStridedSlice S514x1024 ![0, 3] x _ (ix2 r c)
    ||| extractStridedSlice S514x1024 ![0, 2] x _ (ix2 r c) = _
  rw [key 8 (by omega), key 7 (by omega), key 6 (by omega), key 5 (by omega), key 4 (by omega), key 3 (by omega), key 2 (by omega)]
  rfl

theorem andShifts_at (x : IVec S514x1032 32) (g : ℕ → BitVec 32)
    (hx : ∀ (r : Fin 514) (c : Fin 1032), 8 ≤ 1024 * r.val + c.val → r.val < 513 → x (ix2 r c) = g (1024 * r.val + c.val))
    (r : Fin 514) (c : Fin 1024) (h : 8 ≤ 1024 * r.val + c.val) (h' : r.val < 513) : andShifts x (ix2 r c) = and7 g (1024 * r.val + c.val) := by
  have key : ∀ (o : ℕ) (ho : o ≤ 8) (hs : S514x1032.Slices ![0, o] S514x1024),
      extractStridedSlice S514x1024 ![0, o] x hs (ix2 r c) = g (1024 * r.val + c.val + o) := by
    intro o ho hs
    rw [shift_at x o ho hs r c, hx _ _ (show 8 ≤ 1024 * r.val + (o + c.val) by omega) h']
    exact congrArg g (show 1024 * r.val + (o + c.val) = _ by omega)
  show extractStridedSlice S514x1024 ![0, 0] x _ (ix2 r c) &&& extractStridedSlice S514x1024 ![0, 1] x _ (ix2 r c) &&& extractStridedSlice S514x1024 ![0, 2] x _ (ix2 r c)
    &&& extractStridedSlice S514x1024 ![0, 3] x _ (ix2 r c) &&& extractStridedSlice S514x1024 ![0, 4] x _ (ix2 r c) &&& extractStridedSlice S514x1024 ![0, 5] x _ (ix2 r c)
    &&& extractStridedSlice S514x1024 ![0, 6] x _ (ix2 r c) = _
  rw [key 0 (by omega), key 1 (by omega), key 2 (by omega), key 3 (by omega), key 4 (by omega), key 5 (by omega), key 6 (by omega)]
  rfl

theorem rows_at (v0 : Vec F S512x1024 .i32) (v2 : Vec F S1x1x1024 .i32) (v4 : Vec F S1x1x1024 .i32) (g : ℕ → BitVec 32)
    (h0 : ∀ (r : Fin 512) (c : Fin 1024), (v0 (ix2 r c) : BitVec 32) = g (1024 * (r.val + 1) + c.val))
    (h2 : ∀ c : Fin 1024, (v2 (ix3 (0 : Fin 1) (0 : Fin 1) c) : BitVec 32) = g c.val)
    (h4 : ∀ c : Fin 1024, (v4 (ix3 (0 : Fin 1) (0 : Fin 1) c) : BitVec 32) = g (1024 * 513 + c.val))
    (r : Fin 514) (c : Fin 1024) : rows v0 v2 v4 (ix2 r c) = g (1024 * r.val + c.val) := by
  have hr := r.isLt
  have hcast : ∀ v : Vec F S1x1x1024 .i32, shapeCast S1x1024 v shapeCasts_S1x1x1024_S1x1024 (ix2 (0 : Fin 1) c) = v (ix3 (0 : Fin 1) (0 : Fin 1) c) := fun v =>
    (shapeCast_dropUnit_apply ![1, 1024] v shapeCasts_S1x1x1024_S1x1024 (ix2 (0 : Fin 1) c)).trans (congrArg v (funext fun a => by
      match a with
      | 0 => rfl
      | 1 => rfl
      | 2 => rfl))
  unfold rows
  by_cases hA : r.val = 0
  · refine Eq.trans (concatenate_apply_piece 0 _ _ (ix2 r c) 0 (by simp) S1x1024 _ rfl rfl 0 rfl (ix2 (0 : Fin 1) c) (fun b hb => by
      match b with
      | 0 => exact absurd rfl hb
      | 1 => rfl) (show 0 + 0 = r.val by omega)) ?_
    rw [hcast, h2]
    exact congrArg g (by omega)
  by_cases hB : r.val = 513
  · refine Eq.trans (concatenate_apply_piece 0 _ _ (ix2 r c) 2 (by simp) S1x1024 _ rfl rfl 513 rfl (ix2 (0 : Fin 1) c) (fun b hb => by
      match b with
      | 0 => exact absurd rfl hb
      | 1 => rfl) (show 513 + 0 = r.val by omega)) ?_
    rw [hcast, h4]
    exact congrArg g (by omega)
  · refine Eq.trans (concatenate_apply_piece 0 _ _ (ix2 r c) 1 (by simp) S512x1024 _ rfl rfl 1 rfl (ix2 (⟨r.val - 1, by omega⟩ : Fin 512) c) (fun b hb => by
      match b with
      | 0 => exact absurd rfl hb
      | 1 => rfl) (show 1 + (r.val - 1) = r.val by omega)) ?_
    rw [shapeCast_apply v0 _ _ (ix2 (⟨r.val - 1, by omega⟩ : Fin 512) c) rfl, h0]
    exact congrArg g (show 1024 * (r.val - 1 + 1) + c.val = _ by omega)

/-- The block's result at row `r`, column `c`, when the three inputs laid end to end are `g`. -/
theorem pay_at (v0 : Vec F S512x1024 .i32) (v2 : Vec F S1x1x1024 .i32) (v4 : Vec F S1x1x1024 .i32) (g : ℕ → BitVec 32)
    (h0 : ∀ (r : Fin 512) (c : Fin 1024), (v0 (ix2 r c) : BitVec 32) = g (1024 * (r.val + 1) + c.val))
    (h2 : ∀ c : Fin 1024, (v2 (ix3 (0 : Fin 1) (0 : Fin 1) c) : BitVec 32) = g c.val)
    (h4 : ∀ c : Fin 1024, (v4 (ix3 (0 : Fin 1) (0 : Fin 1) c) : BitVec 32) = g (1024 * 513 + c.val))
    (r : Fin 512) (c : Fin 1024) : k1_pay1 v0 v2 v4 (ix2 r c) = and7 (or7 g) (1024 * (r.val + 1) + c.val) := by
  have hr := r.isLt
  rw [pay_eq, extractStridedSlice_apply _ (andShifts (rightHalo (orShifts (leftHalo (rows v0 v2 v4))))) _ (ix2 r c) (ix2 (⟨1 + r.val, by omega⟩ : Fin 514) c) (fun a => by
    match a with
    | 0 => rfl
    | 1 => exact (Nat.zero_add _).symm)]
  rw [andShifts_at _ (or7 g) (rightHalo_at _ (or7 g) (orShifts_at _ g (leftHalo_at _ g (rows_at v0 v2 v4 g h0 h2 h4)))) _ _
    (show 8 ≤ 1024 * (1 + r.val) + c.val by omega) (show 1 + r.val < 513 by omega)]
  exact congrArg _ (show 1024 * (1 + r.val) + c.val = _ by omega)

end Cert.KernelIdeal.Bloom

end
-- ==== Proof.KernelIdeal.Layout.lean ====
/-
  What the arrays around the window call hold, entry by entry: every array read over flat positions taken round the bitset's
  2 ^ 24 bits, and the window's result as an `and` of `or`s of the bitset's words.
-/
module

public import proofs.«01_k».proof.Proof.KernelIdeal.Host
public import proofs.«01_k».proof.Proof.KernelIdeal.Payload
public import Idealize.ShloMosaic.Lib.Pointwise.ShapeOpsCore

@[expose] public section

noncomputable section

namespace Cert.KernelIdeal.Bloom

open Cert.KernelIdeal Cert.KernelIdeal.Gen
open Idealize.ShloMosaic hiding ix1 ix2 ix3
open Idealize.ShloMosaic.StableHlo Idealize.ShloMosaic.ValueIdx
open Idealize.ShloMosaic.TcCoe
open Idealize.ShloMosaic.SparseCore (T)

variable {F : FTy → Type} [FloatOps F]

/-! ## Reshapes between flat and rows -/

theorem flat_to_rows {α : Type} {N R C : ℕ} (v : (⟨1, ![N]⟩ : Shape).Idx → α) (h : (⟨1, ![N]⟩ : Shape).ShapeCasts ⟨2, ![R, C]⟩)
    (r : Fin R) (c : Fin C) (n : Fin N) (hn : n.val = C * r.val + c.val) : shapeCast ⟨2, ![R, C]⟩ v h (ix2 r c) = v (ix1 n) :=
  shapeCast_apply v h _ _ (by
    rw [Shape.rowMajor_val_one, Shape.rowMajor_val_two]
    show n.val = r.val * C + c.val
    rw [hn, Nat.mul_comm])

theorem rows_to_flat {α : Type} {N R C : ℕ} (v : (⟨2, ![R, C]⟩ : Shape).Idx → α) (h : (⟨2, ![R, C]⟩ : Shape).ShapeCasts ⟨1, ![N]⟩)
    (r : Fin R) (c : Fin C) (n : Fin N) (hn : n.val = C * r.val + c.val) : shapeCast ⟨1, ![N]⟩ v h (ix1 n) = v (ix2 r c) :=
  shapeCast_apply v h _ _ (by
    rw [Shape.rowMajor_val_one, Shape.rowMajor_val_two]
    show r.val * C + c.val = n.val
    rw [hn, Nat.mul_comm])

theorem add_middle {α : Type} {R C : ℕ} (v : (⟨2, ![R, C]⟩ : Shape).Idx → α) (h : (⟨2, ![R, C]⟩ : Shape).ShapeCasts ⟨3, ![R, 1, C]⟩)
    (r : Fin R) (c : Fin C) : shapeCast ⟨3, ![R, 1, C]⟩ v h (ix3 r (0 : Fin 1) c) = v (ix2 r c) :=
  shapeCast_apply v h _ _ (by
    rw [Shape.rowMajor_val_three, Shape.rowMajor_val_two]
    show r.val * C + c.val = (r.val * 1 + 0) * C + c.val
    rw [Nat.mul_one, Nat.add_zero])

/-! ## The bitset's words round the ring -/

/-- The word at position `n` taken round the ring. -/
def word (S : S16777216.Idx → BitVec 32) (n : ℕ) : BitVec 32 := S (ix1 (⟨n % 16777216, Nat.mod_lt _ (by decide)⟩ : Fin 16777216))

theorem word_congr (S : S16777216.Idx → BitVec 32) {a b : ℕ} (h : a % 16777216 = b % 16777216) : word S a = word S b := by
  unfold word; exact congrArg S (funext fun d => by match d with | ⟨0, _⟩ => exact Fin.ext h)

section Lines
variable (V : Valuation τ sig (Elt F))

/-- The bitset's words. -/
abbrev bitWords : S16777216.Idx → BitVec 32 := V (Proc.devRef .tc main_v7)

theorem rowsOf_at (r : Fin 16384) (c : Fin 1024) :
    shapeCast S16384x1024 (bitWords V) shapeCasts_S16777216_S16384x1024 (ix2 r c) = word (bitWords V) (1024 * r.val + c.val) := by
  have hr := r.isLt
  have hc := c.isLt
  exact flat_to_rows (bitWords V) shapeCasts_S16777216_S16384x1024 r c ⟨(1024 * r.val + c.val) % 16777216, Nat.mod_lt _ (by decide)⟩ (Nat.mod_eq_of_lt (by omega))

theorem v8_at (r : Fin 16384) (c : Fin 1024) :
    (after opsB V (Proc.devRef .tc main_v8) : S16384x1024.Idx → BitVec 32) (ix2 r c) = word (bitWords V) (1024 * r.val + c.val) := by
  rw [opsB_v8]; exact rowsOf_at V r c

/-- Every 512th row from row `o` on. -/
theorem stride_at (o : ℕ) (ho : o < 512) (h : S16384x1024.SlicesBy ![o, 0] ![512, 1] S32x1024) (t : Fin 32) (c : Fin 1024) :
    Host.slice S32x1024 ![o, 0] ![512, 1] (shapeCast S16384x1024 (bitWords V) shapeCasts_S16777216_S16384x1024) h (ix2 t c)
      = word (bitWords V) (1024 * (512 * t.val + o) + c.val) := by
  have ht := t.isLt
  rw [← show word (bitWords V) (1024 * (⟨512 * t.val + o, by omega⟩ : Fin 16384).val + c.val) = word (bitWords V) (1024 * (512 * t.val + o) + c.val) from rfl, ← rowsOf_at V]
  unfold Host.slice
  refine congrArg (shapeCast S16384x1024 (bitWords V) shapeCasts_S16777216_S16384x1024) (funext fun a => ?_)
  match a with
  | 0 => exact Fin.ext (show o + 512 * t.val = 512 * t.val + o by omega)
  | 1 => exact Fin.ext (show 0 + 1 * c.val = c.val by omega)

theorem v11_at (t : Fin 32) (c : Fin 1024) :
    (after opsB V (Proc.devRef .tc main_v11) : S32x1x1024.Idx → BitVec 32) (ix3 t (0 : Fin 1) c) = word (bitWords V) (16777216 + 524288 * t.val - 1024 + c.val) := by
  have ht := t.isLt
  rw [opsB_v11]
  refine (add_middle _ _ t c).trans ?_
  by_cases h0 : t.val = 0
  · refine (concatenate_pair_apply_left (t := S32x1024) (s₁ := S1x1024) (s₂ := S31x1024) 0 _ _ _ (ix2 t c) rfl (ix2 (0 : Fin 1) c) (fun b => by
      match b with
      | 0 => exact h0.symm
      | 1 => rfl)).trans ?_
    refine (extractStridedSlice_apply _ _ _ _ (ix2 (31 : Fin 32) c) (fun a => by
      match a with
      | 0 => rfl
      | 1 => exact (Nat.zero_add _).symm)).trans ?_
    refine (stride_at V 511 (by omega) _ 31 c).trans (word_congr _ ?_)
    show (1024 * (512 * 31 + 511) + c.val) % 16777216 = _
    rw [h0]
  · refine (concatenate_pair_apply_right (t := S32x1024) (s₁ := S1x1024) (s₂ := S31x1024) 0 _ _ _ (ix2 t c) rfl rfl (ix2 (⟨t.val - 1, by omega⟩ : Fin 31) c) (fun b hb => by
      match b with
      | 0 => exact absurd rfl hb
      | 1 => rfl) (show t.val - 1 + 1 = t.val by omega)).trans ?_
    refine (extractStridedSlice_apply _ _ _ _ (ix2 (⟨t.val - 1, by omega⟩ : Fin 32) c) (fun a => by
      match a with
      | 0 => exact (Nat.zero_add _).symm
      | 1 => exact (Nat.zero_add _).symm)).trans ?_
    refine (stride_at V 511 (by omega) _ _ c).trans (word_congr _ ?_)
    show (1024 * (512 * (t.val - 1) + 511) + c.val) % 16777216 = _
    omega

theorem v14_at (t : Fin 32) (c : Fin 1024) :
    (after opsB V (Proc.devRef .tc main_v14) : S32x1x1024.Idx → BitVec 32) (ix3 t (0 : Fin 1) c) = word (bitWords V) (524288 * (t.val + 1) + c.val) := by
  have ht := t.isLt
  rw [opsB_v14]
  refine (add_middle _ _ t c).trans ?_
  by_cases h31 : t.val = 31
  · refine (concatenate_pair_apply_right (t := S32x1024) (s₁ := S31x1024) (s₂ := S1x1024) 0 _ _ _ (ix2 t c) rfl rfl (ix2 (0 : Fin 1) c) (fun b hb => by
      match b with
      | 0 => exact absurd rfl hb
      | 1 => rfl) (show 0 + 31 = t.val by omega)).trans ?_
    refine (extractStridedSlice_apply _ _ _ _ (ix2 (0 : Fin 32) c) (fun a => by
      match a with
      | 0 => rfl
      | 1 => exact (Nat.zero_add _).symm)).trans ?_
    refine (stride_at V 0 (by omega) _ 0 c).trans (word_congr _ ?_)
    show (1024 * (512 * 0 + 0) + c.val) % 16777216 = _
    omega
  · refine (concatenate_pair_apply_left (t := S32x1024) (s₁ := S31x1024) (s₂ := S1x1024) 0 _ _ _ (ix2 t c) rfl (ix2 (⟨t.val, by omega⟩ : Fin 31) c) (fun b => by
      match b with
      | 0 => rfl
      | 1 => rfl)).trans ?_
    refine (extractStridedSlice_apply _ _ _ _ (ix2 (⟨1 + t.val, by omega⟩ : Fin 32) c) (fun a => by
      match a with
      | 0 => rfl
      | 1 => exact (Nat.zero_add _).symm)).trans ?_
    refine (stride_at V 0 (by omega) _ _ c).trans (word_congr _ ?_)
    show (1024 * (512 * (1 + t.val) + 0) + c.val) % 16777216 = _
    omega

end Lines

/-! ## The window's blocks and its result -/

section Blocks
variable (W : Valuation τ sig (Elt F)) (t : Fin cfg1.N)

theorem blkA_at (r : Fin 512) (c : Fin 1024) (R : Fin 16384) (hR : R.val = 512 * t.val + r.val) :
    (blkA W t (ix2 r c) : BitVec 32) = (W (Proc.devRef .tc main_v8) : S16384x1024.Idx → BitVec 32) (ix2 R c) := by
  have ht : t.val < 32 := lt_of_lt_of_eq t.isLt N_1
  have he : (((cfg1.win 0).blk t).view.emb (ix2 r c : S512x1024.Idx) : S16384x1024.Idx) = ix2 R c := by
    funext a
    match a with
    | 0 =>
      refine Fin.ext ((Pipeline.Window.rect_emb_val win1_0 t _ 0).trans ?_)
      show (BitVec.ofNat 32 ((cfg1.grid.coords t) 0).val).toNat * 512 + r.val = R.val
      rw [coord1, BitVec.toNat_ofNat, Nat.mod_eq_of_lt (by omega), hR, Nat.mul_comm]
    | 1 =>
      refine Fin.ext ((Pipeline.Window.rect_emb_val win1_0 t _ 1).trans ?_)
      show 0 * 1024 + c.val = c.val
      omega
  exact congrArg (W (Proc.devRef .tc main_v8) : S16384x1024.Idx → BitVec 32) he

theorem blkB_at (c : Fin 1024) (t' : Fin 32) (ht' : t'.val = t.val) :
    (blkB W t (ix3 (0 : Fin 1) (0 : Fin 1) c) : BitVec 32) = (W (Proc.devRef .tc main_v11) : S32x1x1024.Idx → BitVec 32) (ix3 t' (0 : Fin 1) c) := by
  have ht : t.val < 32 := lt_of_lt_of_eq t.isLt N_1
  have he : (((cfg1.win 1).blk t).view.emb (ix3 (0 : Fin 1) (0 : Fin 1) c : S1x1x1024.Idx) : S32x1x1024.Idx) = ix3 t' (0 : Fin 1) c := by
    funext a
    match a with
    | 0 =>
      refine Fin.ext ((Pipeline.Window.rect_emb_val win1_1 t _ 0).trans ?_)
      show (BitVec.ofNat 32 ((cfg1.grid.coords t) 0).val).toNat * 1 + 0 = t'.val
      rw [coord1, BitVec.toNat_ofNat, Nat.mod_eq_of_lt (by omega), ht']
      omega
    | 1 => exact Fin.ext (Pipeline.Window.rect_emb_val win1_1 t _ 1)
    | 2 =>
      refine Fin.ext ((Pipeline.Window.rect_emb_val win1_1 t _ 2).trans ?_)
      show 0 * 1024 + c.val = c.val
      omega
  exact congrArg (W (Proc.devRef .tc main_v11) : S32x1x1024.Idx → BitVec 32) he

theorem blkC_at (c : Fin 1024) (t' : Fin 32) (ht' : t'.val = t.val) :
    (blkC W t (ix3 (0 : Fin 1) (0 : Fin 1) c) : BitVec 32) = (W (Proc.devRef .tc main_v14) : S32x1x1024.Idx → BitVec 32) (ix3 t' (0 : Fin 1) c) := by
  have ht : t.val < 32 := lt_of_lt_of_eq t.isLt N_1
  have he : (((cfg1.win 2).blk t).view.emb (ix3 (0 : Fin 1) (0 : Fin 1) c : S1x1x1024.Idx) : S32x1x1024.Idx) = ix3 t' (0 : Fin 1) c := by
    funext a
    match a with
    | 0 =>
      refine Fin.ext ((Pipeline.Window.rect_emb_val win1_2 t _ 0).trans ?_)
      show (BitVec.ofNat 32 ((cfg1.grid.coords t) 0).val).toNat * 1 + 0 = t'.val
      rw [coord1, BitVec.toNat_ofNat, Nat.mod_eq_of_lt (by omega), ht']
      omega
    | 1 => exact Fin.ext (Pipeline.Window.rect_emb_val win1_2 t _ 1)
    | 2 =>
      refine Fin.ext ((Pipeline.Window.rect_emb_val win1_2 t _ 2).trans ?_)
      show 0 * 1024 + c.val = c.val
      omega
  exact congrArg (W (Proc.devRef .tc main_v14) : S32x1x1024.Idx → BitVec 32) he

end Blocks

/-- Moving the entries by `b` moves the `or`s, and then the `and`. -/
theorem or7_move {g f : ℕ → BitVec 32} {b : ℕ} (h : ∀ k, g k = f (b + k)) {k : ℕ} (hk : 6 ≤ k) : or7 g k = or7 f (b + k) := by
  have e : ∀ i, i ≤ 6 → f (b + (k - i)) = f (b + k - i) := fun i hi => congrArg f (by omega)
  unfold or7
  simp only [h]
  rw [e 1 (by omega), e 2 (by omega), e 3 (by omega), e 4 (by omega), e 5 (by omega), e 6 (by omega)]
theorem and7_move {g f : ℕ → BitVec 32} {b : ℕ} (h : ∀ k, 6 ≤ k → g k = f (b + k)) {k : ℕ} (hk : 6 ≤ k) : and7 g k = and7 f (b + k) := by
  have e : ∀ i, g (k + i) = f (b + k + i) := fun i => (h _ (by omega)).trans (congrArg f (by omega))
  unfold and7
  rw [e 1, e 2, e 3, e 4, e 5, e 6, h k hk]

/-- The window's result at a row and a column. -/
theorem wout_at (V : Valuation τ sig (Elt F)) (r : Fin 16384) (c : Fin 1024) :
    wout (after opsB V) (ix2 r c) = and7 (or7 (word (bitWords V))) (16777216 + (1024 * r.val + c.val)) := by
  have hr := r.isLt
  have hc := c.isLt
  have hpt : (ptOf (ix2 r c)).val = r.val / 512 := rfl
  have hblk : inBlk (ix2 r c) = ix2 (⟨r.val % 512, Nat.mod_lt _ (by decide)⟩ : Fin 512) c := by
    funext a
    match a with
    | 0 => rfl
    | 1 => rfl
  unfold wout blkO
  rw [hblk]
  generalize ptOf (ix2 r c) = t at hpt
  have ht : t.val < 32 := lt_of_lt_of_eq t.isLt N_1
  rw [pay_at _ _ _ (fun k => word (bitWords V) (16777216 + 524288 * t.val - 1024 + k))
    (fun r' c' => by
      rw [blkA_at _ t r' c' ⟨512 * t.val + r'.val, by have := r'.isLt; omega⟩ rfl, v8_at]
      refine word_congr _ ?_
      show (1024 * (512 * t.val + r'.val) + c'.val) % 16777216 = _
      omega)
    (fun c' => by rw [blkB_at _ t c' ⟨t.val, ht⟩ rfl, v11_at])
    (fun c' => by
      rw [blkC_at _ t c' ⟨t.val, ht⟩ rfl, v14_at]
      refine word_congr _ ?_
      show (524288 * (t.val + 1) + c'.val) % 16777216 = _
      omega)]
  rw [and7_move (f := or7 (word (bitWords V))) (b := 16777216 + 524288 * t.val - 1024) (fun k hk => or7_move (fun _ => rfl) hk)
    (show 6 ≤ 1024 * (r.val % 512 + 1) + c.val by omega)]
  refine congrArg _ ?_
  show 16777216 + 524288 * t.val - 1024 + (1024 * (r.val % 512 + 1) + c.val) = _
  omega

end Cert.KernelIdeal.Bloom

end
-- ==== Proof.KernelIdeal.Meaning.lean ====
/-
  What the kernel's result says: a query is found exactly when each of its seven probes is a probe of some value that was
  added.
-/
module

public import proofs.«01_k».proof.Proof.KernelIdeal.Layout

@[expose] public section

noncomputable section

namespace Cert.KernelIdeal.Bloom

open Cert.KernelIdeal Cert.KernelIdeal.Gen
open Idealize.ShloMosaic hiding ix0 ix1 ix2 ix3 eq_ix1 eq_ix2
open Idealize.ShloMosaic.StableHlo Idealize.ShloMosaic.ValueIdx
open Idealize.ShloMosaic.TcCoe
open Idealize.ShloMosaic.SparseCore (T)

variable {F : FTy → Type} [FloatOps F]

/-- Every one of the query's seven probes, taken round the ring, is one of the seven probes of a value of `a`. -/
def Found (a : S1000000.Idx → BitVec 32) (q : BitVec 32) : Prop :=
  ∀ s < 7, ∃ i : S1000000.Idx, ∃ e < 7, ((hash (a i)).toNat + e) % 16777216 = ((hash q).toNat + s) % 16777216

/-! ## The window's words as truth values -/

open Classical in
/-- A truth value as a word. -/
def bit (p : Prop) : BitVec 32 := if p then 1#32 else 0#32

theorem bit_or (p q : Prop) : bit p ||| bit q = bit (p ∨ q) := by
  unfold bit
  by_cases hp : p <;> by_cases hq : q <;> simp [hp, hq]
theorem bit_and (p q : Prop) : bit p &&& bit q = bit (p ∧ q) := by
  unfold bit
  by_cases hp : p <;> by_cases hq : q <;> simp [hp, hq]
theorem bit_ne (p : Prop) : bit p ≠ 0#32 ↔ p := by
  unfold bit
  by_cases hp : p <;> simp [hp]

theorem or7_bit (B : ℕ → Prop) (k : ℕ) : or7 (fun n => bit (B n)) k = bit (∃ e < 7, B (k - e)) := by
  unfold or7
  simp only [bit_or]
  refine congrArg bit (propext ⟨?_, ?_⟩)
  · rintro ((((((h | h) | h) | h) | h) | h) | h)
    exacts [⟨0, by omega, h⟩, ⟨1, by omega, h⟩, ⟨2, by omega, h⟩, ⟨3, by omega, h⟩, ⟨4, by omega, h⟩, ⟨5, by omega, h⟩, ⟨6, by omega, h⟩]
  · rintro ⟨e, he, h⟩
    interval_cases e
    · exact .inl (.inl (.inl (.inl (.inl (.inl h)))))
    · exact .inl (.inl (.inl (.inl (.inl (.inr h)))))
    · exact .inl (.inl (.inl (.inl (.inr h))))
    · exact .inl (.inl (.inl (.inr h)))
    · exact .inl (.inl (.inr h))
    · exact .inl (.inr h)
    · exact .inr h

theorem and7_bit (B : ℕ → Prop) (k : ℕ) : and7 (fun n => bit (B n)) k = bit (∀ d < 7, B (k + d)) := by
  unfold and7
  simp only [bit_and]
  refine congrArg bit (propext ⟨?_, fun h => ?_⟩)
  · rintro ⟨⟨⟨⟨⟨⟨h0, h1⟩, h2⟩, h3⟩, h4⟩, h5⟩, h6⟩ d hd
    interval_cases d <;> assumption
  · exact ⟨⟨⟨⟨⟨⟨h 0 (by omega), h 1 (by omega)⟩, h 2 (by omega)⟩, h 3 (by omega)⟩, h 4 (by omega)⟩, h 5 (by omega)⟩, h 6 (by omega)⟩

theorem window_bit (B : ℕ → Prop) (k : ℕ) : and7 (or7 fun n => bit (B n)) k = bit (∀ d < 7, ∃ e < 7, B (k + d - e)) := by
  rw [← and7_bit (fun n => ∃ e < 7, B (n - e))]
  exact congrArg (and7 · k) (funext fun n => or7_bit B n)

/-! ## The values added and the bits they mark -/

variable (m : (b : Loc nD τ sig) → Buf (Elt F) b) (d : Dev nD)

/-- The two arguments. -/
abbrev added : S1000000.Idx → BitVec 32 := m ((T d : Thread nD τ).loc main_arg0)
abbrev asked : S4194304.Idx → BitVec 32 := m ((T d : Thread nD τ).loc main_arg1)

/-- The padded values: the values, then the first one again and again. -/
theorem padded_at (r : Fin 8192) (c : Fin 128) :
    ((inpA m).va d : S8192x128.Idx → BitVec 32) (ix2 r c)
      = added m d (ix1 (if h : 128 * r.val + c.val < 1000000 then ⟨128 * r.val + c.val, h⟩ else (⟨0, by decide⟩ : Fin 1000000))) := by
  have hr := r.isLt
  have hc := c.isLt
  show (after opsA (val0 m d) (Proc.devRef .tc main_v4) : S8192x128.Idx → BitVec 32) (ix2 r c) = _
  rw [opsA_v4]
  refine (flat_to_rows _ _ r c (⟨128 * r.val + c.val, by omega⟩ : Fin 1048576) rfl).trans ?_
  by_cases h : 128 * r.val + c.val < 1000000
  · rw [dif_pos h]
    exact concatenate_pair_apply_left (t := S1048576) (s₁ := S1000000) (s₂ := S48576) 0 _ _ _ _ rfl (ix1 (⟨128 * r.val + c.val, h⟩ : Fin 1000000)) (fun b => by
      match b with
      | 0 => rfl)
  · rw [dif_neg h]
    refine (concatenate_pair_apply_right (t := S1048576) (s₁ := S1000000) (s₂ := S48576) 0 _ _ _ (ix1 (⟨128 * r.val + c.val, by omega⟩ : Fin 1048576)) rfl rfl (ix1 (⟨128 * r.val + c.val - 1000000, by omega⟩ : Fin 48576)) (fun b hb => by
      match b with
      | 0 => exact absurd rfl hb) (show 128 * r.val + c.val - 1000000 + 1000000 = 128 * r.val + c.val by omega)).trans ?_
    refine (broadcastInDim_apply _ _ _ _ ix0 (fun a => a.elim0)).trans ?_
    refine (shapeCast_apply _ _ ix0 (ix1 (0 : Fin 1)) rfl).trans ?_
    exact extractStridedSlice_apply _ _ _ _ _ (fun a => by
      match a with
      | 0 => rfl)

/-- A bit is marked exactly when some added value's hash names it. -/
theorem marked_iff (x : S16777216.Idx) : x ∈ allMarks (inpA m) d ↔ ∃ i : S1000000.Idx, x = pos (added m d i) := by
  unfold allMarks coreMarks
  simp only [Finset.mem_biUnion, Finset.mem_univ, true_and]
  constructor
  · rintro ⟨c, i, h⟩
    obtain ⟨y, -, -, hy⟩ := (mem_marks d (co0 c i) ((inpA m).va d)).1 h
    exact ⟨_, hy.trans (congrArg pos ((congrArg ((inpA m).va d : S8192x128.Idx → BitVec 32) (eq_ix2 y)).trans (padded_at m d (y 0) (y 1))))⟩
  · rintro ⟨i, hi⟩
    have hn : (i 0).val < 1000000 := (i 0).isLt
    refine ⟨⟨(i 0).val / 128 / 256 % 2, by omega⟩, ⟨(i 0).val / 128 / 256 / 2, by omega⟩, (mem_marks d _ ((inpA m).va d)).2 ?_⟩
    refine ⟨ix2 (⟨(i 0).val / 128, by omega⟩ : Fin 8192) (⟨(i 0).val % 128, by omega⟩ : Fin 128), ?_, ?_, ?_⟩
    · show ((i 0).val / 128 / 256 / 2 * 2 + (i 0).val / 128 / 256 % 2) * 256 ≤ (i 0).val / 128
      omega
    · show (i 0).val / 128 < ((i 0).val / 128 / 256 / 2 * 2 + (i 0).val / 128 / 256 % 2) * 256 + 256
      omega
    · rw [padded_at, dif_pos (show 128 * ((i 0).val / 128) + (i 0).val % 128 < 1000000 by omega), hi]
      refine congrArg (fun j => pos (added m d j)) ?_
      exact (eq_ix1 i).trans (congrArg ix1 (Fin.ext (Nat.div_add_mod (i 0).val 128).symm))

/-- The bitset's word at position `n` taken round the ring. -/
theorem bitset_at (n : ℕ) : word (bitset m d) n = bit (∃ i : S1000000.Idx, (hash (added m d i)).toNat = n % 16777216) := by
  have key : ∀ x : S16777216.Idx, (bitset m d : S16777216.Idx → BitVec 32) x = bit (x ∈ allMarks (inpA m) d) := by
    intro x
    unfold bitset bit
    by_cases h : x ∈ allMarks (inpA m) d
    · rw [if_pos h]; exact Finset.piecewise_eq_of_mem _ _ _ h
    · rw [if_neg h]
      refine (Finset.piecewise_eq_of_notMem _ _ _ h).trans ?_
      show (after opsA (val0 m d) (Proc.devRef .tc main_v7) : S16777216.Idx → BitVec 32) x = 0#32
      rw [opsA_v7]
      rfl
  unfold word
  rw [key]
  refine congrArg bit (propext ((marked_iff m d _).trans (exists_congr fun i => ?_)))
  constructor
  · intro h; exact (congrArg (fun y : S16777216.Idx => (y 0).val) h).symm
  · intro h; funext a; match a with | 0 => exact Fin.ext h.symm

/-! ## The table the queries are looked up in, and the result -/

theorem table_at (n : ℕ) (hn : n < 16777216) :
    ((inp m).vw d : S16777216.Idx → BitVec 32) (ix1 ⟨n, hn⟩)
      = bit (∀ s < 7, ∃ e < 7, ∃ i : S1000000.Idx, (hash (added m d i)).toNat = (16777216 + n + s - e) % 16777216) := by
  have h1 : ((inp m).vw d : S16777216.Idx → BitVec 32) = shapeCast S16777216 (wout (after opsB (val2 m d))) shapeCasts_S16384x1024_S16777216 := by
    show after opsC (afterWindow (val3 m) d) (Proc.devRef .tc main_v16) = _
    rw [opsC_v16]
    unfold afterWindow
    rw [Function.update_self]
    rfl
  have h2 : bitWords (val2 m d) = bitset m d := Function.update_self ..
  rw [h1]
  refine (rows_to_flat _ _ (⟨n / 1024, by omega⟩ : Fin 16384) (⟨n % 1024, Nat.mod_lt _ (by decide)⟩ : Fin 1024) _ (Nat.div_add_mod n 1024).symm).trans ?_
  rw [wout_at, h2, show word (bitset m d) = fun k => bit (∃ i : S1000000.Idx, (hash (added m d i)).toNat = k % 16777216) from funext fun k => bitset_at m d k,
    window_bit]
  show bit (∀ s < 7, ∃ e < 7, ∃ i : S1000000.Idx, (hash (added m d i)).toNat = (16777216 + (1024 * (n / 1024) + n % 1024) + s - e) % 16777216) = _
  rw [Nat.div_add_mod]

theorem queries_at (r : Fin 32768) (c : Fin 128) (n : Fin 4194304) (hn : n.val = 128 * r.val + c.val) :
    ((inp m).vq d : S32768x128.Idx → BitVec 32) (ix2 r c) = asked m d (ix1 n) := by
  have h : ((inp m).vq d : S32768x128.Idx → BitVec 32) = shapeCast S32768x128 (asked m d) shapeCasts_S4194304_S32768x128 := by
    show after opsC (afterWindow (val3 m) d) (Proc.devRef .tc main_v5) = _
    rw [opsC_v5]
    unfold afterWindow
    rw [Function.update_of_ne (by decide)]
    show after opsB (val2 m d) (Proc.devRef .tc main_v5) = _
    rw [opsB_v5]
    unfold val2
    rw [Function.update_of_ne (by decide)]
    exact opsA_v5 (val0 m d)
  rw [h]
  exact flat_to_rows _ _ r c n hn

/-- The kernel's result at a query. -/
theorem result_iff (x : S4194304.Idx) :
    (val7 m d (Proc.devRef .tc main_v20) : S4194304.Idx → BitVec 1) x = 1#1 ↔ Found (added m d) (asked m d x) := by
  have hx : (x 0).val < 4194304 := (x 0).isLt
  have h1 : (val7 m d (Proc.devRef .tc main_v20) : S4194304.Idx → BitVec 1) x
      = IntOp.cmpi .ne (((inp m).vw d : S16777216.Idx → BitVec 32) (pos (asked m d x))) 0#32 := by
    show (after opsD (val6 m d) (Proc.devRef .tc main_v20) : S4194304.Idx → BitVec 1) x = _
    rw [opsD_v20]
    unfold val6
    rw [Function.update_self]
    refine congrArg (fun w => IntOp.cmpi .ne w 0#32) ?_
    rw [eq_ix1 x]
    refine (rows_to_flat _ _ (⟨(x 0).val / 128, by omega⟩ : Fin 32768) (⟨(x 0).val % 128, Nat.mod_lt _ (by decide)⟩ : Fin 128) _ (Nat.div_add_mod (x 0).val 128).symm).trans ?_
    exact congrArg (fun v => ((inp m).vw d : S16777216.Idx → BitVec 32) (pos v)) (queries_at m d _ _ (x 0) (Nat.div_add_mod (x 0).val 128).symm)
  have h2 : ((inp m).vw d : S16777216.Idx → BitVec 32) (pos (asked m d x))
      = bit (∀ s < 7, ∃ e < 7, ∃ i : S1000000.Idx, (hash (added m d i)).toNat = (16777216 + (hash (asked m d x)).toNat + s - e) % 16777216) := by
    rw [← table_at m d _ (hash_lt _)]
    exact congrArg ((inp m).vw d : S16777216.Idx → BitVec 32) (eq_ix1 _)
  have h3 : ∀ w : BitVec 32, IntOp.cmpi .ne w 0#32 = 1#1 ↔ w ≠ 0#32 := by
    intro w
    show BitVec.ofBool (w != 0#32) = 1#1 ↔ _
    by_cases h : w = 0#32
    · simp [h]
    · rw [show (w != 0#32) = true from bne_iff_ne.2 h]
      exact ⟨fun _ => h, fun _ => rfl⟩
  rw [h1, h3, h2, bit_ne]
  have hq := hash_lt (asked m d x)
  unfold Found
  refine forall_congr' fun s => forall_congr' fun hs => ?_
  constructor
  · rintro ⟨e, he, i, hi⟩
    exact ⟨i, e, he, by rw [hi]; omega⟩
  · rintro ⟨i, e, he, hi⟩
    have := hash_lt (added m d i)
    exact ⟨e, he, i, by omega⟩

end Cert.KernelIdeal.Bloom

end
-- ==== Proof.ReferenceIdeal.Meaning.lean ====
/-
  What the reference's result says: the bits of every added value's seven probes are set, and a query is found exactly when
  the bits of its own seven probes are all set.
-/
module

public import proofs.«01_k».proof.Proof.Gen.ReferenceIdeal.Run
public import Idealize.ShloMosaic.Lib.Pipeline.Value
public import Idealize.ShloMosaic.Lib.Pointwise.Reduce
public import Idealize.ShloMosaic.Lib.Routing.OpsSet
public import Idealize.ShloMosaic.Lib.ReduceAll
public import Idealize.ShloMosaic.Lib.WordCmp

@[expose] public section

noncomputable section

namespace Cert.ReferenceIdeal.Bloom

open Cert.ReferenceIdeal Cert.ReferenceIdeal.Gen
open Idealize.ShloMosaic hiding ix0 ix1 ix2 ix3 eq_ix1 eq_ix2
open Idealize.ShloMosaic.StableHlo Idealize.ShloMosaic.ValueIdx
open Idealize.ShloMosaic.TcCoe
open Idealize.SL.Sem

variable {F : FTy → Type} [FloatOps F]

/-! ## One probe -/

/-- Probe `e` of a value. -/
def probe (v : BitVec 32) (e : ℕ) : BitVec 32 := (v * 2654435761#32 + BitVec.ofNat 32 e) &&& 16777215#32

theorem mask_toNat (w : BitVec 32) : (w &&& 16777215#32).toNat = w.toNat % 16777216 := by
  rw [BitVec.toNat_and]
  exact Nat.and_two_pow_sub_one_eq_mod w.toNat 24

/-- A probe is the value's hash moved along the ring. -/
theorem probe_toNat (v : BitVec 32) (e : ℕ) : (probe v e).toNat = ((v * 2654435761#32 &&& 16777215#32).toNat + e) % 16777216 := by
  unfold probe
  rw [mask_toNat, mask_toNat, BitVec.toNat_add, BitVec.toNat_ofNat]
  generalize (v * 2654435761#32).toNat = x
  omega

theorem probe_lt (v : BitVec 32) (e : ℕ) : (probe v e).toNat < 16777216 := by
  rw [probe_toNat]; exact Nat.mod_lt _ (by decide)

/-- The redirect of negative indices leaves a probe alone. -/
theorem wrap_probe (v : BitVec 32) (e : ℕ) (w : BitVec 32) : Scalar.select (IntOp.cmpi .slt (probe v e) 0#32) w (probe v e) = probe v e := by
  have h := probe_lt v e
  rw [WordCmp.cmpi_slt_zero, WordCmp.select_decide, if_neg (by omega)]

/-- A probe read signed is a position of the ring. -/
theorem probe_toInt (v : BitVec 32) (e : ℕ) : (probe v e).toInt = ((probe v e).toNat : Int) := by
  have h := probe_lt v e
  exact BitVec.toInt_eq_toNat_of_lt (by omega)

/-- The table of all the probes of a list of values, at value `i` and probe `e`. -/
theorem probes_at {n : ℕ} (hn : n ≠ 1) (v : (⟨1, ![n]⟩ : Shape).Idx → BitVec 32) (h1 : (⟨1, ![n]⟩ : Shape).BroadcastsInDim ⟨2, ![n, 1]⟩ ![0])
    (h2 : S_.BroadcastsInDim ⟨2, ![n, 1]⟩ ![]) (h3 : (⟨2, ![n, 1]⟩ : Shape).BroadcastsInDim ⟨2, ![n, 7]⟩ ![0, 1])
    (h4 : S7.BroadcastsInDim S1x7 ![1]) (h5 : S1x7.BroadcastsInDim ⟨2, ![n, 7]⟩ ![0, 1]) (h6 : S_.BroadcastsInDim ⟨2, ![n, 7]⟩ ![]) (i : Fin n) (e : Fin 7) :
    andi (addi (broadcastInDim ⟨2, ![n, 7]⟩ ![0, 1] h3 (muli (broadcastInDim ⟨2, ![n, 1]⟩ ![0] h1 v) (broadcastInDim ⟨2, ![n, 1]⟩ ![] h2 (constantI S_ 32 2654435761#32))))
      (broadcastInDim ⟨2, ![n, 7]⟩ ![0, 1] h5 (broadcastInDim S1x7 ![1] h4 (iotaInDim S7 32 0)))) (broadcastInDim ⟨2, ![n, 7]⟩ ![] h6 (constantI S_ 32 16777215#32)) (ix2 i e)
      = probe (v (ix1 i)) e.val := by
  have hA : broadcastInDim ⟨2, ![n, 7]⟩ ![0, 1] h3 (muli (broadcastInDim ⟨2, ![n, 1]⟩ ![0] h1 v) (broadcastInDim ⟨2, ![n, 1]⟩ ![] h2 (constantI S_ 32 2654435761#32))) (ix2 i e)
      = v (ix1 i) * 2654435761#32 := by
    refine (broadcastInDim_apply _ _ _ _ (ix2 i (0 : Fin 1)) (fun a => by
      match a with
      | 0 => exact (if_neg hn).symm
      | 1 => rfl)).trans ?_
    exact congrArg (· * 2654435761#32) (broadcastInDim_apply _ _ _ _ (ix1 i) (fun a => by
      match a with
      | 0 => exact (if_neg hn).symm))
  have hB : broadcastInDim ⟨2, ![n, 7]⟩ ![0, 1] h5 (broadcastInDim S1x7 ![1] h4 (iotaInDim S7 32 0)) (ix2 i e) = BitVec.ofNat 32 e.val := by
    refine (broadcastInDim_apply _ _ _ _ (ix2 (0 : Fin 1) e) (fun a => by
      match a with
      | 0 => rfl
      | 1 => rfl)).trans ?_
    exact broadcastInDim_apply _ _ _ _ (ix1 e) (fun a => by
      match a with
      | 0 => rfl)
  show (broadcastInDim _ _ h3 _ (ix2 i e) + broadcastInDim _ _ h5 _ (ix2 i e)) &&& 16777215#32 = _
  rw [hA, hB]
  rfl

/-! ## The bits that are set -/

/-- The added values' probes, one after another. -/
def setAt (a : S1000000.Idx → BitVec 32) : IVec S7000000 32 :=
  shapeCast S7000000 (andi (addi (broadcastInDim S1000000x7 ![0, 1] bcast_S1000000x1_S1000000x7_0_1
      (muli (broadcastInDim S1000000x1 ![0] bcast_S1000000_S1000000x1_0 a) (broadcastInDim S1000000x1 ![] bcast_S_S1000000x1 (constantI S_ 32 2654435761#32))))
      (broadcastInDim S1000000x7 ![0, 1] bcast_S1x7_S1000000x7_0_1 (broadcastInDim S1x7 ![1] bcast_S7_S1x7_1 (iotaInDim S7 32 0))))
    (broadcastInDim S1000000x7 ![] bcast_S_S1000000x7 (constantI S_ 32 16777215#32))) shapeCasts_S1000000x7_S7000000

/-- The same as scatter indices. -/
def setIdx (a : S1000000.Idx → BitVec 32) : IVec S7000000x1 32 :=
  broadcastInDim S7000000x1 ![0] bcast_S7000000_S7000000x1_0 (select (cmpi .slt (setAt a) (broadcastInDim S7000000 ![] bcast_S_S7000000 (constantI S_ 32 0#32)))
    (addi (setAt a) (broadcastInDim S7000000 ![] bcast_S_S7000000 (constantI S_ 32 16777216#32))) (setAt a))

/-- The bitset. -/
def setBits (a : S1000000.Idx → BitVec 32) : IVec S16777216 1 :=
  Host.scatter scatter_S16777216_S7000000x1_S7000000_n_0_0_1 (fun _ b => b) (broadcastInDim S16777216 ![] bcast_S_S16777216 (constantI S_ 1 0#1)) (setIdx a)
    (broadcastInDim S7000000 ![] bcast_S_S7000000 (constantI S_ 1 1#1))

theorem setIdx_at (a : S1000000.Idx → BitVec 32) (i : Fin 1000000) (e : Fin 7) (n : Fin 7000000) (hn : n.val = i.val * 7 + e.val) :
    setIdx a (ix2 n (0 : Fin 1)) = probe (a (ix1 i)) e.val := by
  have h : setAt a (ix1 n) = probe (a (ix1 i)) e.val :=
    (shapeCast_apply _ _ (ix1 n) (ix2 i e) (by
      rw [Shape.rowMajor_val_one, Shape.rowMajor_val_two]
      exact hn.symm)).trans (probes_at (by decide) a _ _ _ _ _ _ i e)
  unfold setIdx
  refine (broadcastInDim_apply _ _ _ _ (ix1 n) (fun b => by
    match b with
    | 0 => rfl)).trans ?_
  show Scalar.select (IntOp.cmpi .slt (setAt a (ix1 n)) 0#32) (setAt a (ix1 n) + 16777216#32) (setAt a (ix1 n)) = _
  rw [h, wrap_probe]

/-- An update lands at the position its index, read signed, names. -/
theorem lands (idx : IVec S7000000x1 32) (n : Fin 7000000) (b : Fin 16777216) :
    scatter_S16777216_S7000000x1_S7000000_n_0_0_1.resultIdx? (ix1 n : S7000000.Idx) idx = some (ix1 b : S16777216.Idx) ↔ (idx (ix2 n (0 : Fin 1))).toInt = (b.val : Int) := by
  have hb := b.isLt
  have hp : ∀ a : Fin S16777216.rank, scatter_S16777216_S7000000x1_S7000000_n_0_0_1.start (ix1 n : S7000000.Idx) idx a
      + scatter_S16777216_S7000000x1_S7000000_n_0_0_1.window (ix1 n : S7000000.Idx) a = (idx (ix2 n (0 : Fin 1))).toInt := by
    intro a
    match a with
    | 0 =>
      have hw : scatter_S16777216_S7000000x1_S7000000_n_0_0_1.window (ix1 n : S7000000.Idx) 0 = 0 := dif_neg (by decide)
      have hs : scatter_S16777216_S7000000x1_S7000000_n_0_0_1.start (ix1 n : S7000000.Idx) idx 0 = (idx (ix2 n (0 : Fin 1))).toInt := by
        refine (dif_pos (by decide)).trans ?_
        refine congrArg (fun k => (idx k).toInt) (funext fun k => ?_)
        match k with
        | 0 => rfl
        | 1 => exact Subsingleton.elim (α := Fin 1) _ _
      rw [hw, hs]
      exact Int.add_zero _
  unfold ScatterDims.resultIdx?
  split
  · next h =>
    rw [Option.some.injEq]
    constructor
    · intro e
      have e0 := congrArg Fin.val (congrFun e 0)
      have h0 := (h 0).1
      change (scatter_S16777216_S7000000x1_S7000000_n_0_0_1.start (ix1 n : S7000000.Idx) idx 0
        + scatter_S16777216_S7000000x1_S7000000_n_0_0_1.window (ix1 n : S7000000.Idx) 0).toNat = b.val at e0
      rw [hp] at e0 h0
      omega
    · intro e
      funext k
      match k with
      | 0 =>
        refine Fin.ext ?_
        show (scatter_S16777216_S7000000x1_S7000000_n_0_0_1.start (ix1 n : S7000000.Idx) idx 0
          + scatter_S16777216_S7000000x1_S7000000_n_0_0_1.window (ix1 n : S7000000.Idx) 0).toNat = b.val
        rw [hp, e]
        rfl
  · next h =>
    refine ⟨fun e => (nomatch e), fun e => (h fun k => ?_).elim⟩
    rw [hp, e]
    match k with
    | 0 =>
      show (0 : Int) ≤ b.val ∧ (b.val : Int) < (16777216 : ℕ)
      omega

/-- A bit is set exactly when it is a probe of an added value. -/
theorem setBits_iff (a : S1000000.Idx → BitVec 32) (b : Fin 16777216) :
    setBits a (ix1 b) = 1#1 ↔ ∃ i : S1000000.Idx, ∃ e < 7, (probe (a i) e).toNat = b.val := by
  constructor
  · intro h
    by_contra hno
    refine absurd (h.symm.trans (Routing.scatter_set_miss _ _ (setIdx a) _ (ix1 b) fun k hk => hno ?_)) (show ¬(1#1 : BitVec 1) = 0#1 by decide)
    rw [eq_ix1 k] at hk
    have hk0 : (k 0).val < 7000000 := (k 0).isLt
    have hk' := (lands (setIdx a) (k 0) b).1 hk
    rw [setIdx_at a (⟨(k 0).val / 7, by omega⟩ : Fin 1000000) (⟨(k 0).val % 7, Nat.mod_lt _ (by decide)⟩ : Fin 7) (k 0) (Nat.div_add_mod' (k 0).val 7).symm, probe_toInt] at hk'
    exact ⟨_, (k 0).val % 7, Nat.mod_lt _ (by decide), Int.ofNat.inj hk'⟩
  · rintro ⟨i, e, he, h⟩
    have hi : (i 0).val < 1000000 := (i 0).isLt
    refine Routing.scatter_set_hit _ _ (setIdx a) _ (ix1 b) 1#1 (fun _ _ => rfl) (ix1 (⟨(i 0).val * 7 + e, by omega⟩ : Fin 7000000)) ((lands _ _ b).2 ?_)
    rw [setIdx_at a (i 0) (⟨e, he⟩ : Fin 7) _ rfl, probe_toInt]
    rw [eq_ix1 i] at h
    exact congrArg Int.ofNat h

/-! ## The lookups -/

/-- The queries' probes. -/
def getAt (q : S4194304.Idx → BitVec 32) : IVec S4194304x7 32 :=
  andi (addi (broadcastInDim S4194304x7 ![0, 1] bcast_S4194304x1_S4194304x7_0_1
      (muli (broadcastInDim S4194304x1 ![0] bcast_S4194304_S4194304x1_0 q) (broadcastInDim S4194304x1 ![] bcast_S_S4194304x1 (constantI S_ 32 2654435761#32))))
      (broadcastInDim S4194304x7 ![0, 1] bcast_S1x7_S4194304x7_0_1 (broadcastInDim S1x7 ![1] bcast_S7_S1x7_1 (iotaInDim S7 32 0))))
    (broadcastInDim S4194304x7 ![] bcast_S_S4194304x7 (constantI S_ 32 16777215#32))

/-- The same as gather indices. -/
def getIdx (q : S4194304.Idx → BitVec 32) : IVec S4194304x7x1 32 :=
  broadcastInDim S4194304x7x1 ![0, 1] bcast_S4194304x7_S4194304x7x1_0_1 (select (cmpi .slt (getAt q) (broadcastInDim S4194304x7 ![] bcast_S_S4194304x7 (constantI S_ 32 0#32)))
    (addi (getAt q) (broadcastInDim S4194304x7 ![] bcast_S_S4194304x7 (constantI S_ 32 16777216#32))) (getAt q))

/-- The reference's result. -/
def refOut (a : S1000000.Idx → BitVec 32) (q : S4194304.Idx → BitVec 32) : IVec S4194304 1 :=
  Host.reduce IntOp.andi (Host.gather gather_S16777216_S4194304x7x1_S4194304x7_n_0_n_n_0_2_1 (setBits a) (getIdx q)) (constantI S_ 1 1#1)
    reducesTo_S4194304x7_S4194304_d1 h_S_

theorem getIdx_at (q : S4194304.Idx → BitVec 32) (i : Fin 4194304) (s : Fin 7) : getIdx q (ix3 i s (0 : Fin 1)) = probe (q (ix1 i)) s.val := by
  have h : getAt q (ix2 i s) = probe (q (ix1 i)) s.val := probes_at (by decide) q _ _ _ _ _ _ i s
  unfold getIdx
  refine (broadcastInDim_apply _ _ _ _ (ix2 i s) (fun b => by
    match b with
    | 0 => rfl
    | 1 => rfl)).trans ?_
  show Scalar.select (IntOp.cmpi .slt (getAt q (ix2 i s)) 0#32) (getAt q (ix2 i s) + 16777216#32) (getAt q (ix2 i s)) = _
  rw [h, wrap_probe]

/-- The gather looks a query's probe up. -/
theorem lookup_at (x : IVec S16777216 1) (q : S4194304.Idx → BitVec 32) (i : Fin 4194304) (s : Fin 7) :
    Host.gather gather_S16777216_S4194304x7x1_S4194304x7_n_0_n_n_0_2_1 x (getIdx q) (ix2 i s)
      = x (ix1 (⟨(probe (q (ix1 i)) s.val).toNat, probe_lt _ _⟩ : Fin 16777216)) := by
  unfold Host.gather
  refine congrArg x (funext fun b => ?_)
  match b with
  | 0 =>
    refine Fin.ext ?_
    show gather_S16777216_S4194304x7x1_S4194304x7_n_0_n_n_0_2_1.start (ix2 i s : S4194304x7.Idx) (getIdx q) 0
      + gather_S16777216_S4194304x7x1_S4194304x7_n_0_n_n_0_2_1.batchCoord (ix2 i s : S4194304x7.Idx) 0
      + gather_S16777216_S4194304x7x1_S4194304x7_n_0_n_n_0_2_1.offCoord (ix2 i s : S4194304x7.Idx) 0 = _
    rw [GatherDims.batchCoord_eq_zero _ _ _ (by decide), GatherDims.offCoord_eq_zero _ _ _ (by decide)]
    have hs : gather_S16777216_S4194304x7x1_S4194304x7_n_0_n_n_0_2_1.start (ix2 i s : S4194304x7.Idx) (getIdx q) 0
        = min (getIdx q (ix3 i s (0 : Fin 1))).toInt.toNat (16777216 - 1) := by
      refine (dif_pos (by decide)).trans ?_
      refine congrArg (fun k => min (getIdx q k).toInt.toNat (16777216 - 1)) (funext fun k => ?_)
      match k with
      | 0 => rfl
      | 1 => rfl
      | 2 => exact Subsingleton.elim (α := Fin 1) _ _
    rw [hs, getIdx_at, probe_toInt]
    have h := probe_lt (q (ix1 i)) s.val
    show min (((probe (q (ix1 i)) s.val).toNat : Int)).toNat (16777216 - 1) + 0 + 0 = (probe (q (ix1 i)) s.val).toNat
    omega

/-- The reference's result at a query. -/
theorem refOut_iff (a : S1000000.Idx → BitVec 32) (q : S4194304.Idx → BitVec 32) (x : S4194304.Idx) :
    refOut a q x = 1#1 ↔ ∀ s < 7, ∃ i : S1000000.Idx, ∃ e < 7, (probe (a i) e).toNat = (probe (q x) s).toNat := by
  have key : ∀ s : Fin 7, Host.gather gather_S16777216_S4194304x7x1_S4194304x7_n_0_n_n_0_2_1 (setBits a) (getIdx q) (ix2 (x 0) s) = 1#1
      ↔ ∃ i : S1000000.Idx, ∃ e < 7, (probe (a i) e).toNat = (probe (q x) s.val).toNat := by
    intro s
    rw [show q x = q (ix1 (x 0)) from congrArg q (eq_ix1 x)]
    have h := lookup_at (setBits a) q (x 0) s
    exact (iff_of_eq (congrArg (· = 1#1) h)).trans (setBits_iff a _)
  have hdrop : ∀ y : S4194304x7.Idx, Shape.ReducesTo.drop reducesTo_S4194304x7_S4194304_d1 y = x ↔ ∃ s : Fin 7, (ix2 (x 0) s : S4194304x7.Idx) = y := fun y =>
    Shape.ReducesTo.fiber_r2_a1 reducesTo_S4194304x7_S4194304_d1 x y
  unfold refOut
  constructor
  · intro h s hs
    exact (key ⟨s, hs⟩).1 (Host.reduce_andi_eq_one _ _ _ _ x h _ ((hdrop _).2 ⟨⟨s, hs⟩, rfl⟩))
  · intro h
    rw [Host.reduce_eq_foldl]
    refine IntOp.foldl_andi_one _ _ _ rfl fun y hy => ?_
    obtain ⟨s, rfl⟩ := (hdrop y).1 (of_decide_eq_true (List.mem_filter.1 hy).2)
    exact (key s).2 (h s.val s.isLt)

/-- The reference's run, its result by that name. -/
theorem run_out (m : (b : Loc nD τ sig) → Buf (Elt F) b) (ρ : Dev nD → PrngReg) :
    θ_run defs (onTc (τ := τ) (main (F := F))) ⟨m, fun _ => 0, ρ⟩ fun r => ∀ c : Dev nD,
      r.2.mem ((c.tc : Thread nD τ).loc main_v41) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1, (h c).2⟩) (Value.run m ρ)

end Cert.ReferenceIdeal.Bloom

end
-- ==== Proof.lean ====
/-
  The certificate's claims, put together: the two programs' runs (Proof/Kernel/Launch.lean, Proof/KernelIdeal/Launch.lean)
  and the reference's (its generated run) read at what each claim asks, and the two results compared query by query.
-/
module

public import proofs.«01_k».proof.Defs
public import proofs.«01_k».proof.Proof.Kernel.Launch
public import proofs.«01_k».proof.Proof.KernelIdeal.Launch
public import proofs.«01_k».proof.Proof.KernelIdeal.Meaning
public import proofs.«01_k».proof.Proof.ReferenceIdeal.Meaning

@[expose] public section

noncomputable section

namespace Cert.Proof

open Idealize.ShloMosaic Idealize.SL.Sem

/-- The kernel's frame: its run read at the arguments and the counters. -/
theorem frame_kernel : Cert.quiescent_Kernel := fun m ρ _ =>
  (θ_run Cert.Kernel.defs _ _).mono (fun _ h => ⟨fun c => ⟨(h.1 c).1, (h.1 c).2.1⟩, h.2⟩) (Cert.Kernel.Bloom.run_main (F := Bits) m ρ)

/-- The same of the kernel read over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Bloom.run_main (F := Ideal) m ρ)

/-- The reference's frame; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A one-bit word is known by whether it is 1. -/
theorem bit_ext {x y : BitVec 1} (h : x = 1#1 ↔ y = 1#1) : x = y := by
  rcases BitVec.eq_zero_or_eq_one x with hx | hx <;> rcases BitVec.eq_zero_or_eq_one y with hy | hy <;> subst hx <;> subst hy
  · rfl
  · exact h.2 rfl
  · exact (h.1 rfl).symm
  · rfl

/-- From the same arguments the two programs answer every query alike. -/
theorem results_eq (m : (b : Loc Cert.KernelIdeal.nD Cert.KernelIdeal.τ Cert.KernelIdeal.sig) → Buf (Elt Ideal) b) (d : Dev Cert.KernelIdeal.nD)
    (x : Cert.KernelIdeal.S4194304.Idx) :
    Cert.ReferenceIdeal.Bloom.refOut (Cert.KernelIdeal.Bloom.added m d) (Cert.KernelIdeal.Bloom.asked m d) x
      = (Cert.KernelIdeal.Bloom.val7 m d (Proc.devRef .tc Cert.KernelIdeal.main_v20) : Cert.KernelIdeal.S4194304.Idx → BitVec 1) x := by
  refine bit_ext ((Cert.ReferenceIdeal.Bloom.refOut_iff _ _ x).trans (Iff.trans ?_ (Cert.KernelIdeal.Bloom.result_iff m d x).symm))
  unfold Cert.KernelIdeal.Bloom.Found
  refine forall_congr' fun s => forall_congr' fun _ => exists_congr fun i => exists_congr fun e => and_congr_right fun _ => ?_
  rw [Cert.ReferenceIdeal.Bloom.probe_toNat, Cert.ReferenceIdeal.Bloom.probe_toNat]
  exact Iff.rfl

/-- The kernel's result is the reference's. -/
theorem algebraic : Cert.algebraic_KernelIdeal_ReferenceIdeal := by
  intro m g m' g' _ hm
  refine ⟨fun c => Cert.KernelIdeal.Bloom.val7 m c (Proc.devRef .tc Cert.KernelIdeal.main_v20), ?_, ?_⟩
  · exact (θ_run Cert.KernelIdeal.defs _ _).mono (fun _ h c => ⟨(h.1 c).2.2, (h.1 c).1, (h.1 c).2.1⟩) (Cert.KernelIdeal.Bloom.run_main (F := Ideal) m g)
  · refine (θ_run Cert.ReferenceIdeal.defs _ _).mono (fun r h c => ⟨(h c).1.trans ?_, (h c).2⟩) (Cert.ReferenceIdeal.Bloom.run_out (F := Ideal) m' g')
    rw [(hm c).1, (hm c).2]
    exact funext fun x => results_eq m c x

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
